-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x32 : Shape := ⟨2, ![2048, 32]⟩
abbrev S2048x64x8 : Shape := ⟨3, ![2048, 64, 8]⟩
abbrev S2048x64x32 : Shape := ⟨3, ![2048, 64, 32]⟩
abbrev S32x512 : Shape := ⟨2, ![32, 512]⟩
abbrev S512 : Shape := ⟨1, ![512]⟩
abbrev S512x512 : Shape := ⟨2, ![512, 512]⟩
abbrev S512x96 : Shape := ⟨2, ![512, 96]⟩
abbrev S96 : Shape := ⟨1, ![96]⟩
abbrev S128x128 : Shape := ⟨2, ![128, 128]⟩
abbrev S8x128 : Shape := ⟨2, ![8, 128]⟩
abbrev S1x512 : Shape := ⟨2, ![1, 512]⟩
abbrev S1x96 : Shape := ⟨2, ![1, 96]⟩
abbrev S131072x32 : Shape := ⟨2, ![131072, 32]⟩
abbrev S131072x128 : Shape := ⟨2, ![131072, 128]⟩
abbrev S4096x32 : Shape := ⟨2, ![4096, 32]⟩
abbrev S4096x128 : Shape := ⟨2, ![4096, 128]⟩
abbrev S4096x512 : Shape := ⟨2, ![4096, 512]⟩
abbrev S4096x96 : Shape := ⟨2, ![4096, 96]⟩
abbrev S2048x64x128 : Shape := ⟨3, ![2048, 64, 128]⟩
abbrev S64x8x2048 : Shape := ⟨3, ![64, 8, 2048]⟩
abbrev S512x2048 : Shape := ⟨2, ![512, 2048]⟩
abbrev S1024x32 : Shape := ⟨2, ![1024, 32]⟩
abbrev S512x1024 : Shape := ⟨2, ![512, 1024]⟩
abbrev S2x1024x128 : Shape := ⟨3, ![2, 1024, 128]⟩
abbrev S2 : Shape := ⟨1, ![2]⟩
abbrev S1024x512 : Shape := ⟨2, ![1024, 512]⟩
abbrev S1024x96 : Shape := ⟨2, ![1024, 96]⟩
abbrev S1024x128 : Shape := ⟨2, ![1024, 128]⟩
abbrev S8x1024 : Shape := ⟨2, ![8, 1024]⟩
abbrev S1 : Shape := ⟨1, ![1]⟩
abbrev S_ : Shape := ⟨0, ![]⟩
abbrev S1024x1x128 : Shape := ⟨3, ![1024, 1, 128]⟩
abbrev S1x1024x128 : Shape := ⟨3, ![1, 1024, 128]⟩

abbrev nBuf : Space → Nat
  | .hbm => 24
  | .vmem => 27
  | .smem => 0
  | _ => 0

abbrev bufTy : (tb : Table) → Fin (tcTables nBuf tb) → BufTy
  | .hbm, ⟨0, _⟩ => ⟨S2048x32, .f32⟩
  | .hbm, ⟨1, _⟩ => ⟨S2048x64x8, .f32⟩
  | .hbm, ⟨2, _⟩ => ⟨S2048x64x32, .f32⟩
  | .hbm, ⟨3, _⟩ => ⟨S32x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x96, .f32⟩
  | .hbm, ⟨10, _⟩ => ⟨S96, .f32⟩
  | .hbm, ⟨11, _⟩ => ⟨S128x128, .f32⟩
  | .hbm, ⟨12, _⟩ => ⟨S8x128, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x96, .f32⟩
  | .hbm, ⟨17, _⟩ => ⟨S131072x32, .f32⟩
  | .hbm, ⟨18, _⟩ => ⟨S131072x128, .f32⟩
  | .hbm, ⟨19, _⟩ => ⟨S2048x64x128, .f32⟩
  | .hbm, ⟨20, _⟩ => ⟨S64x8x2048, .f32⟩
  | .hbm, ⟨21, _⟩ => ⟨S512x2048, .f32⟩
  | .hbm, ⟨22, _⟩ => ⟨S2048x64x128, .f32⟩
  | .hbm, ⟨23, _⟩ => ⟨S2048x64x32, .f32⟩
  | .local _ .vmem, ⟨0, _⟩ => ⟨S4096x32, .f32⟩
  | .local _ .vmem, ⟨1, _⟩ => ⟨S4096x32, .f32⟩
  | .local _ .vmem, ⟨2, _⟩ => ⟨S32x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x96, .f32⟩
  | .local _ .vmem, ⟨9, _⟩ => ⟨S1x96, .f32⟩
  | .local _ .vmem, ⟨10, _⟩ => ⟨S4096x128, .f32⟩
  | .local _ .vmem, ⟨11, _⟩ => ⟨S4096x128, .f32⟩
  | .local _ .vmem, ⟨12, _⟩ => ⟨S1024x32, .f32⟩
  | .local _ .vmem, ⟨13, _⟩ => ⟨S1024x32, .f32⟩
  | .local _ .vmem, ⟨14, _⟩ => ⟨S512x1024, .f32⟩
  | .local _ .vmem, ⟨15, _⟩ => ⟨S512x1024, .f32⟩
  | .local _ .vmem, ⟨16, _⟩ => ⟨S32x512, .f32⟩
  | .local _ .vmem, ⟨17, _⟩ => ⟨S1x512, .f32⟩
  | .local _ .vmem, ⟨18, _⟩ => ⟨S512x512, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S512x96, .f32⟩
  | .local _ .vmem, ⟨23, _⟩ => ⟨S1x96, .f32⟩
  | .local _ .vmem, ⟨24, _⟩ => ⟨S128x128, .f32⟩
  | .local _ .vmem, ⟨25, _⟩ => ⟨S8x128, .f32⟩
  | .local _ .vmem, ⟨26, _⟩ => ⟨S2x1024x128, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![2], ![false]⟩

def k1_cond1 (i : grid1.Coords) : BitVec 1 :=
  let arg0 : BitVec 32 := BitVec.ofNat 32 (i 0).val
  let c0_i32 : BitVec 32 := 0#32
  let v40 : BitVec 1 := Scalar.cmpi .sgt arg0 c0_i32
  let v41 : BitVec 32 := Scalar.extui v40
  let c0_i32_34 : BitVec 32 := 0#32
  let v42 : BitVec 1 := Scalar.cmpi .ne v41 c0_i32_34
  v42

def k1_off1 (i : grid1.Coords) : Fin 3 → Nat :=
  let arg0 : BitVec 32 := BitVec.ofNat 32 (i 0).val
  let c1024_i32 : BitVec 32 := 1024#32
  let v34 : BitVec 32 := Scalar.muli arg0 c1024_i32
  let c0_i32_32 : BitVec 32 := 0#32
  let c0_i32_1115 : BitVec 32 := 0#32
  ![v34.toNat, 0, 0]
def k1_off2 (i : grid1.Coords) : Fin 3 → Nat :=
  let arg0 : BitVec 32 := BitVec.ofNat 32 (i 0).val
  let c1024_i32 : BitVec 32 := 1024#32
  let v34 : BitVec 32 := Scalar.muli arg0 c1024_i32
  let c0_i32_39 : BitVec 32 := 0#32
  let c0_i32_41 : BitVec 32 := 0#32
  ![v34.toNat, 0, 0]
def k1_cond2 (i : grid1.Coords) : BitVec 1 :=
  let arg0 : BitVec 32 := BitVec.ofNat 32 (i 0).val
  let c0_i32_47 : BitVec 32 := 0#32
  let v57 : BitVec 1 := Scalar.cmpi .sgt arg0 c0_i32_47
  let v58 : BitVec 32 := Scalar.extui v57
  let c0_i32_50 : BitVec 32 := 0#32
  let v59 : BitVec 1 := Scalar.cmpi .ne v58 c0_i32_50
  v59

def k1_off3 (i : grid1.Coords) : Fin 3 → Nat :=
  let arg0 : BitVec 32 := BitVec.ofNat 32 (i 0).val
  let c1024_i32 : BitVec 32 := 1024#32
  let v34 : BitVec 32 := Scalar.muli arg0 c1024_i32
  let c1_i32_48 : BitVec 32 := 1#32
  let c0_i32_1115 : BitVec 32 := 0#32
  ![v34.toNat, 1, 0]
def k1_off4 (i : grid1.Coords) : Fin 3 → Nat :=
  let arg0 : BitVec 32 := BitVec.ofNat 32 (i 0).val
  let c1024_i32 : BitVec 32 := 1024#32
  let v34 : BitVec 32 := Scalar.muli arg0 c1024_i32
  let c1_i32_54 : BitVec 32 := 1#32
  let c0_i32_56 : BitVec 32 := 0#32
  ![v34.toNat, 1, 0]
def k1_off5 (i : grid1.Coords) : Fin 3 → Nat :=
  let arg0 : BitVec 32 := BitVec.ofNat 32 (i 0).val
  let c1024_i32 : BitVec 32 := 1024#32
  let v34 : BitVec 32 := Scalar.muli arg0 c1024_i32
  let c2_i32 : BitVec 32 := 2#32
  let c0_i32_64 : BitVec 32 := 0#32
  ![v34.toNat, 2, 0]
def k1_off6 (i : grid1.Coords) : Fin 3 → Nat :=
  let arg0 : BitVec 32 := BitVec.ofNat 32 (i 0).val
  let c1024_i32 : BitVec 32 := 1024#32
  let v34 : BitVec 32 := Scalar.muli arg0 c1024_i32
  let c3_i32 : BitVec 32 := 3#32
  let c0_i32_81 : BitVec 32 := 0#32
  ![v34.toNat, 3, 0]
def k1_off7 (i : grid1.Coords) : Fin 3 → Nat :=
  let arg0 : BitVec 32 := BitVec.ofNat 32 (i 0).val
  let c1024_i32 : BitVec 32 := 1024#32
  let v34 : BitVec 32 := Scalar.muli arg0 c1024_i32
  let c4_i32 : BitVec 32 := 4#32
  let c0_i32_98 : BitVec 32 := 0#32
  ![v34.toNat, 4, 0]
def k1_off8 (i : grid1.Coords) : Fin 3 → Nat :=
  let arg0 : BitVec 32 := BitVec.ofNat 32 (i 0).val
  let c1024_i32 : BitVec 32 := 1024#32
  let v34 : BitVec 32 := Scalar.muli arg0 c1024_i32
  let c5_i32 : BitVec 32 := 5#32
  let c0_i32_115 : BitVec 32 := 0#32
  ![v34.toNat, 5, 0]
def k1_off9 (i : grid1.Coords) : Fin 3 → Nat :=
  let arg0 : BitVec 32 := BitVec.ofNat 32 (i 0).val
  let c1024_i32 : BitVec 32 := 1024#32
  let v34 : BitVec 32 := Scalar.muli arg0 c1024_i32
  let c6_i32 : BitVec 32 := 6#32
  let c0_i32_132 : BitVec 32 := 0#32
  ![v34.toNat, 6, 0]
def k1_off10 (i : grid1.Coords) : Fin 3 → Nat :=
  let arg0 : BitVec 32 := BitVec.ofNat 32 (i 0).val
  let c1024_i32 : BitVec 32 := 1024#32
  let v34 : BitVec 32 := Scalar.muli arg0 c1024_i32
  let c7_i32 : BitVec 32 := 7#32
  let c0_i32_149 : BitVec 32 := 0#32
  ![v34.toNat, 7, 0]
def k1_off11 (i : grid1.Coords) : Fin 3 → Nat :=
  let arg0 : BitVec 32 := BitVec.ofNat 32 (i 0).val
  let c1024_i32 : BitVec 32 := 1024#32
  let v34 : BitVec 32 := Scalar.muli arg0 c1024_i32
  let c8_i32 : BitVec 32 := 8#32
  let c0_i32_166 : BitVec 32 := 0#32
  ![v34.toNat, 8, 0]
def k1_off12 (i : grid1.Coords) : Fin 3 → Nat :=
  let arg0 : BitVec 32 := BitVec.ofNat 32 (i 0).val
  let c1024_i32 : BitVec 32 := 1024#32
  let v34 : BitVec 32 := Scalar.muli arg0 c1024_i32
  let c9_i32 : BitVec 32 := 9#32
  let c0_i32_183 : BitVec 32 := 0#32
  ![v34.toNat, 9, 0]
def k1_off13 (i : grid1.Coords) : Fin 3 → Nat :=
  let arg0 : BitVec 32 := BitVec.ofNat 32 (i 0).val
  let c1024_i32 : BitVec 32 := 1024#32
  let v34 : BitVec 32 := Scalar.muli arg0 c1024_i32
  let c10_i32 : BitVec 32 := 10#32
  let c0_i32_200 : BitVec 32 := 0#32
  ![v34.toNat, 10, 0]
def k1_off14 (i : grid1.Coords) : Fin 3 → Nat :=
  let arg0 : BitVec 32 := BitVec.ofNat 32 (i 0).val
  let c1024_i32 : BitVec 32 := 1024#32
  let v34 : BitVec 32 := Scalar.muli arg0 c1024_i32
  let c11_i32 : BitVec 32 := 11#32
  let c0_i32_217 : BitVec 32 := 0#32
  ![v34.toNat, 11, 0]
def k1_off15 (i : grid1.Coords) : Fin 3 → Nat :=
  let arg0 : BitVec 32 := BitVec.ofNat 32 (i 0).val
  let c1024_i32 : BitVec 32 := 1024#32
  let v34 : BitVec 32 := Scalar.muli arg0 c1024_i32
  let c12_i32 : BitVec 32 := 12#32
  let c0_i32_234 : BitVec 32 := 0#32
  ![v34.toNat, 12, 0]
def k1_off16 (i : grid1.Coords) : Fin 3 → Nat :=
  let arg0 : BitVec 32 := BitVec.ofNat 32 (i 0).val
  let c1024_i32 : BitVec 32 := 1024#32
  let v34 : BitVec 32 := Scalar.muli arg0 c1024_i32
  let c13_i32 : BitVec 32 := 13#32
  let c0_i32_251 : BitVec 32 := 0#32
  ![v34.toNat, 13, 0]
def k1_off17 (i : grid1.Coords) : Fin 3 → Nat :=
  let arg0 : BitVec 32 := BitVec.ofNat 32 (i 0).val
  let c1024_i32 : BitVec 32 := 1024#32
  let v34 : BitVec 32 := Scalar.muli arg0 c1024_i32
  let c14_i32 : BitVec 32 := 14#32
  let c0_i32_268 : BitVec 32 := 0#32
  ![v34.toNat, 14, 0]
def k1_off18 (i : grid1.Coords) : Fin 3 → Nat :=
  let arg0 : BitVec 32 := BitVec.ofNat 32 (i 0).val
  let c1024_i32 : BitVec 32 := 1024#32
  let v34 : BitVec 32 := Scalar.muli arg0 c1024_i32
  let c15_i32 : BitVec 32 := 15#32
  let c0_i32_285 : BitVec 32 := 0#32
  ![v34.toNat, 15, 0]
def k1_off19 (i : grid1.Coords) : Fin 3 → Nat :=
  let arg0 : BitVec 32 := BitVec.ofNat 32 (i 0).val
  let c1024_i32 : BitVec 32 := 1024#32
  let v34 : BitVec 32 := Scalar.muli arg0 c1024_i32
  let c16_i32 : BitVec 32 := 16#32
  let c0_i32_302 : BitVec 32 := 0#32
  ![v34.toNat, 16, 0]
def k1_off20 (i : grid1.Coords) : Fin 3 → Nat :=
  let arg0 : BitVec 32 := BitVec.ofNat 32 (i 0).val
  let c1024_i32 : BitVec 32 := 1024#32
  let v34 : BitVec 32 := Scalar.muli arg0 c1024_i32
  let c17_i32 : BitVec 32 := 17#32
  let c0_i32_319 : BitVec 32 := 0#32
  ![v34.toNat, 17, 0]
def k1_off21 (i : grid1.Coords) : Fin 3 → Nat :=
  let arg0 : BitVec 32 := BitVec.ofNat 32 (i 0).val
  let c1024_i32 : BitVec 32 := 1024#32
  let v34 : BitVec 32 := Scalar.muli arg0 c1024_i32
  let c18_i32 : BitVec 32 := 18#32
  let c0_i32_336 : BitVec 32 := 0#32
  ![v34.toNat, 18, 0]
def k1_off22 (i : grid1.Coords) : Fin 3 → Nat :=
  let arg0 : BitVec 32 := BitVec.ofNat 32 (i 0).val
  let c1024_i32 : BitVec 32 := 1024#32
  let v34 : BitVec 32 := Scalar.muli arg0 c1024_i32
  let c19_i32 : BitVec 32 := 19#32
  let c0_i32_353 : BitVec 32 := 0#32
  ![v34.toNat, 19, 0]
def k1_off23 (i : grid1.Coords) : Fin 3 → Nat :=
  let arg0 : BitVec 32 := BitVec.ofNat 32 (i 0).val
  let c1024_i32 : BitVec 32 := 1024#32
  let v34 : BitVec 32 := Scalar.muli arg0 c1024_i32
  let c20_i32 : BitVec 32 := 20#32
  let c0_i32_370 : BitVec 32 := 0#32
  ![v34.toNat, 20, 0]
def k1_off24 (i : grid1.Coords) : Fin 3 → Nat :=
  let arg0 : BitVec 32 := BitVec.ofNat 32 (i 0).val
  let c1024_i32 : BitVec 32 := 1024#32
  let v34 : BitVec 32 := Scalar.muli arg0 c1024_i32
  let c21_i32 : BitVec 32 := 21#32
  let c0_i32_387 : BitVec 32 := 0#32
  ![v34.toNat, 21, 0]
def k1_off25 (i : grid1.Coords) : Fin 3 → Nat :=
  let arg0 : BitVec 32 := BitVec.ofNat 32 (i 0).val
  let c1024_i32 : BitVec 32 := 1024#32
  let v34 : BitVec 32 := Scalar.muli arg0 c1024_i32
  let c22_i32 : BitVec 32 := 22#32
  let c0_i32_404 : BitVec 32 := 0#32
  ![v34.toNat, 22, 0]
def k1_off26 (i : grid1.Coords) : Fin 3 → Nat :=
  let arg0 : BitVec 32 := BitVec.ofNat 32 (i 0).val
  let c1024_i32 : BitVec 32 := 1024#32
  let v34 : BitVec 32 := Scalar.muli arg0 c1024_i32
  let c23_i32 : BitVec 32 := 23#32
  let c0_i32_421 : BitVec 32 := 0#32
  ![v34.toNat, 23, 0]
def k1_off27 (i : grid1.Coords) : Fin 3 → Nat :=
  let arg0 : BitVec 32 := BitVec.ofNat 32 (i 0).val
  let c1024_i32 : BitVec 32 := 1024#32
  let v34 : BitVec 32 := Scalar.muli arg0 c1024_i32
  let c24_i32 : BitVec 32 := 24#32
  let c0_i32_438 : BitVec 32 := 0#32
  ![v34.toNat, 24, 0]
def k1_off28 (i : grid1.Coords) : Fin 3 → Nat :=
  let arg0 : BitVec 32 := BitVec.ofNat 32 (i 0).val
  let c1024_i32 : BitVec 32 := 1024#32
  let v34 : BitVec 32 := Scalar.muli arg0 c1024_i32
  let c25_i32 : BitVec 32 := 25#32
  let c0_i32_455 : BitVec 32 := 0#32
  ![v34.toNat, 25, 0]
def k1_off29 (i : grid1.Coords) : Fin 3 → Nat :=
  let arg0 : BitVec 32 := BitVec.ofNat 32 (i 0).val
  let c1024_i32 : BitVec 32 := 1024#32
  let v34 : BitVec 32 := Scalar.muli arg0 c1024_i32
  let c26_i32 : BitVec 32 := 26#32
  let c0_i32_472 : BitVec 32 := 0#32
  ![v34.toNat, 26, 0]
def k1_off30 (i : grid1.Coords) : Fin 3 → Nat :=
  let arg0 : BitVec 32 := BitVec.ofNat 32 (i 0).val
  let c1024_i32 : BitVec 32 := 1024#32
  let v34 : BitVec 32 := Scalar.muli arg0 c1024_i32
  let c27_i32 : BitVec 32 := 27#32
  let c0_i32_489 : BitVec 32 := 0#32
  ![v34.toNat, 27, 0]
def k1_off31 (i : grid1.Coords) : Fin 3 → Nat :=
  let arg0 : BitVec 32 := BitVec.ofNat 32 (i 0).val
  let c1024_i32 : BitVec 32 := 1024#32
  let v34 : BitVec 32 := Scalar.muli arg0 c1024_i32
  let c28_i32 : BitVec 32 := 28#32
  let c0_i32_506 : BitVec 32 := 0#32
  ![v34.toNat, 28, 0]
def k1_off32 (i : grid1.Coords) : Fin 3 → Nat :=
  let arg0 : BitVec 32 := BitVec.ofNat 32 (i 0).val
  let c1024_i32 : BitVec 32 := 1024#32
  let v34 : BitVec 32 := Scalar.muli arg0 c1024_i32
  let c29_i32 : BitVec 32 := 29#32
  let c0_i32_523 : BitVec 32 := 0#32
  ![v34.toNat, 29, 0]
def k1_off33 (i : grid1.Coords) : Fin 3 → Nat :=
  let arg0 : BitVec 32 := BitVec.ofNat 32 (i 0).val
  let c1024_i32 : BitVec 32 := 1024#32
  let v34 : BitVec 32 := Scalar.muli arg0 c1024_i32
  let c30_i32 : BitVec 32 := 30#32
  let c0_i32_540 : BitVec 32 := 0#32
  ![v34.toNat, 30, 0]
def k1_off34 (i : grid1.Coords) : Fin 3 → Nat :=
  let arg0 : BitVec 32 := BitVec.ofNat 32 (i 0).val
  let c1024_i32 : BitVec 32 := 1024#32
  let v34 : BitVec 32 := Scalar.muli arg0 c1024_i32
  let c31_i32 : BitVec 32 := 31#32
  let c0_i32_557 : BitVec 32 := 0#32
  ![v34.toNat, 31, 0]
def k1_off35 (i : grid1.Coords) : Fin 3 → Nat :=
  let arg0 : BitVec 32 := BitVec.ofNat 32 (i 0).val
  let c1024_i32 : BitVec 32 := 1024#32
  let v34 : BitVec 32 := Scalar.muli arg0 c1024_i32
  let c32_i32 : BitVec 32 := 32#32
  let c0_i32_574 : BitVec 32 := 0#32
  ![v34.toNat, 32, 0]
def k1_off36 (i : grid1.Coords) : Fin 3 → Nat :=
  let arg0 : BitVec 32 := BitVec.ofNat 32 (i 0).val
  let c1024_i32 : BitVec 32 := 1024#32
  let v34 : BitVec 32 := Scalar.muli arg0 c1024_i32
  let c33_i32 : BitVec 32 := 33#32
  let c0_i32_591 : BitVec 32 := 0#32
  ![v34.toNat, 33, 0]
def k1_off37 (i : grid1.Coords) : Fin 3 → Nat :=
  let arg0 : BitVec 32 := BitVec.ofNat 32 (i 0).val
  let c1024_i32 : BitVec 32 := 1024#32
  let v34 : BitVec 32 := Scalar.muli arg0 c1024_i32
  let c34_i32 : BitVec 32 := 34#32
  let c0_i32_608 : BitVec 32 := 0#32
  ![v34.toNat, 34, 0]
def k1_off38 (i : grid1.Coords) : Fin 3 → Nat :=
  let arg0 : BitVec 32 := BitVec.ofNat 32 (i 0).val
  let c1024_i32 : BitVec 32 := 1024#32
  let v34 : BitVec 32 := Scalar.muli arg0 c1024_i32
  let c35_i32 : BitVec 32 := 35#32
  let c0_i32_625 : BitVec 32 := 0#32
  ![v34.toNat, 35, 0]
def k1_off39 (i : grid1.Coords) : Fin 3 → Nat :=
  let arg0 : BitVec 32 := BitVec.ofNat 32 (i 0).val
  let c1024_i32 : BitVec 32 := 1024#32
  let v34 : BitVec 32 := Scalar.muli arg0 c1024_i32
  let c36_i32 : BitVec 32 := 36#32
  let c0_i32_642 : BitVec 32 := 0#32
  ![v34.toNat, 36, 0]
def k1_off40 (i : grid1.Coords) : Fin 3 → Nat :=
  let arg0 : BitVec 32 := BitVec.ofNat 32 (i 0).val
  let c1024_i32 : BitVec 32 := 1024#32
  let v34 : BitVec 32 := Scalar.muli arg0 c1024_i32
  let c37_i32 : BitVec 32 := 37#32
  let c0_i32_659 : BitVec 32 := 0#32
  ![v34.toNat, 37, 0]
def k1_off41 (i : grid1.Coords) : Fin 3 → Nat :=
  let arg0 : BitVec 32 := BitVec.ofNat 32 (i 0).val
  let c1024_i32 : BitVec 32 := 1024#32
  let v34 : BitVec 32 := Scalar.muli arg0 c1024_i32
  let c38_i32 : BitVec 32 := 38#32
  let c0_i32_676 : BitVec 32 := 0#32
  ![v34.toNat, 38, 0]
def k1_off42 (i : grid1.Coords) : Fin 3 → Nat :=
  let arg0 : BitVec 32 := BitVec.ofNat 32 (i 0).val
  let c1024_i32 : BitVec 32 := 1024#32
  let v34 : BitVec 32 := Scalar.muli arg0 c1024_i32
  let c39_i32 : BitVec 32 := 39#32
  let c0_i32_693 : BitVec 32 := 0#32
  ![v34.toNat, 39, 0]
def k1_off43 (i : grid1.Coords) : Fin 3 → Nat :=
  let arg0 : BitVec 32 := BitVec.ofNat 32 (i 0).val
  let c1024_i32 : BitVec 32 := 1024#32
  let v34 : BitVec 32 := Scalar.muli arg0 c1024_i32
  let c40_i32 : BitVec 32 := 40#32
  let c0_i32_710 : BitVec 32 := 0#32
  ![v34.toNat, 40, 0]
def k1_off44 (i : grid1.Coords) : Fin 3 → Nat :=
  let arg0 : BitVec 32 := BitVec.ofNat 32 (i 0).val
  let c1024_i32 : BitVec 32 := 1024#32
  let v34 : BitVec 32 := Scalar.muli arg0 c1024_i32
  let c41_i32 : BitVec 32 := 41#32
  let c0_i32_727 : BitVec 32 := 0#32
  ![v34.toNat, 41, 0]
def k1_off45 (i : grid1.Coords) : Fin 3 → Nat :=
  let arg0 : BitVec 32 := BitVec.ofNat 32 (i 0).val
  let c1024_i32 : BitVec 32 := 1024#32
  let v34 : BitVec 32 := Scalar.muli arg0 c1024_i32
  let c42_i32 : BitVec 32 := 42#32
  let c0_i32_744 : BitVec 32 := 0#32
  ![v34.toNat, 42, 0]
def k1_off46 (i : grid1.Coords) : Fin 3 → Nat :=
  let arg0 : BitVec 32 := BitVec.ofNat 32 (i 0).val
  let c1024_i32 : BitVec 32 := 1024#32
  let v34 : BitVec 32 := Scalar.muli arg0 c1024_i32
  let c43_i32 : BitVec 32 := 43#32
  let c0_i32_761 : BitVec 32 := 0#32
  ![v34.toNat, 43, 0]
def k1_off47 (i : grid1.Coords) : Fin 3 → Nat :=
  let arg0 : BitVec 32 := BitVec.ofNat 32 (i 0).val
  let c1024_i32 : BitVec 32 := 1024#32
  let v34 : BitVec 32 := Scalar.muli arg0 c1024_i32
  let c44_i32 : BitVec 32 := 44#32
  let c0_i32_778 : BitVec 32 := 0#32
  ![v34.toNat, 44, 0]
def k1_off48 (i : grid1.Coords) : Fin 3 → Nat :=
  let arg0 : BitVec 32 := BitVec.ofNat 32 (i 0).val
  let c1024_i32 : BitVec 32 := 1024#32
  let v34 : BitVec 32 := Scalar.muli arg0 c1024_i32
  let c45_i32 : BitVec 32 := 45#32
  let c0_i32_795 : BitVec 32 := 0#32
  ![v34.toNat, 45, 0]
def k1_off49 (i : grid1.Coords) : Fin 3 → Nat :=
  let arg0 : BitVec 32 := BitVec.ofNat 32 (i 0).val
  let c1024_i32 : BitVec 32 := 1024#32
  let v34 : BitVec 32 := Scalar.muli arg0 c1024_i32
  let c46_i32 : BitVec 32 := 46#32
  let c0_i32_812 : BitVec 32 := 0#32
  ![v34.toNat, 46, 0]
def k1_off50 (i : grid1.Coords) : Fin 3 → Nat :=
  let arg0 : BitVec 32 := BitVec.ofNat 32 (i 0).val
  let c1024_i32 : BitVec 32 := 1024#32
  let v34 : BitVec 32 := Scalar.muli arg0 c1024_i32
  let c47_i32 : BitVec 32 := 47#32
  let c0_i32_829 : BitVec 32 := 0#32
  ![v34.toNat, 47, 0]
def k1_off51 (i : grid1.Coords) : Fin 3 → Nat :=
  let arg0 : BitVec 32 := BitVec.ofNat 32 (i 0).val
  let c1024_i32 : BitVec 32 := 1024#32
  let v34 : BitVec 32 := Scalar.muli arg0 c1024_i32
  let c48_i32 : BitVec 32 := 48#32
  let c0_i32_846 : BitVec 32 := 0#32
  ![v34.toNat, 48, 0]
def k1_off52 (i : grid1.Coords) : Fin 3 → Nat :=
  let arg0 : BitVec 32 := BitVec.ofNat 32 (i 0).val
  let c1024_i32 : BitVec 32 := 1024#32
  let v34 : BitVec 32 := Scalar.muli arg0 c1024_i32
  let c49_i32 : BitVec 32 := 49#32
  let c0_i32_863 : BitVec 32 := 0#32
  ![v34.toNat, 49, 0]
def k1_off53 (i : grid1.Coords) : Fin 3 → Nat :=
  let arg0 : BitVec 32 := BitVec.ofNat 32 (i 0).val
  let c1024_i32 : BitVec 32 := 1024#32
  let v34 : BitVec 32 := Scalar.muli arg0 c1024_i32
  let c50_i32 : BitVec 32 := 50#32
  let c0_i32_880 : BitVec 32 := 0#32
  ![v34.toNat, 50, 0]
def k1_off54 (i : grid1.Coords) : Fin 3 → Nat :=
  let arg0 : BitVec 32 := BitVec.ofNat 32 (i 0).val
  let c1024_i32 : BitVec 32 := 1024#32
  let v34 : BitVec 32 := Scalar.muli arg0 c1024_i32
  let c51_i32 : BitVec 32 := 51#32
  let c0_i32_897 : BitVec 32 := 0#32
  ![v34.toNat, 51, 0]
def k1_off55 (i : grid1.Coords) : Fin 3 → Nat :=
  let arg0 : BitVec 32 := BitVec.ofNat 32 (i 0).val
  let c1024_i32 : BitVec 32 := 1024#32
  let v34 : BitVec 32 := Scalar.muli arg0 c1024_i32
  let c52_i32 : BitVec 32 := 52#32
  let c0_i32_914 : BitVec 32 := 0#32
  ![v34.toNat, 52, 0]
def k1_off56 (i : grid1.Coords) : Fin 3 → Nat :=
  let arg0 : BitVec 32 := BitVec.ofNat 32 (i 0).val
  let c1024_i32 : BitVec 32 := 1024#32
  let v34 : BitVec 32 := Scalar.muli arg0 c1024_i32
  let c53_i32 : BitVec 32 := 53#32
  let c0_i32_931 : BitVec 32 := 0#32
  ![v34.toNat, 53, 0]
def k1_off57 (i : grid1.Coords) : Fin 3 → Nat :=
  let arg0 : BitVec 32 := BitVec.ofNat 32 (i 0).val
  let c1024_i32 : BitVec 32 := 1024#32
  let v34 : BitVec 32 := Scalar.muli arg0 c1024_i32
  let c54_i32 : BitVec 32 := 54#32
  let c0_i32_948 : BitVec 32 := 0#32
  ![v34.toNat, 54, 0]
def k1_off58 (i : grid1.Coords) : Fin 3 → Nat :=
  let arg0 : BitVec 32 := BitVec.ofNat 32 (i 0).val
  let c1024_i32 : BitVec 32 := 1024#32
  let v34 : BitVec 32 := Scalar.muli arg0 c1024_i32
  let c55_i32 : BitVec 32 := 55#32
  let c0_i32_965 : BitVec 32 := 0#32
  ![v34.toNat, 55, 0]
def k1_off59 (i : grid1.Coords) : Fin 3 → Nat :=
  let arg0 : BitVec 32 := BitVec.ofNat 32 (i 0).val
  let c1024_i32 : BitVec 32 := 1024#32
  let v34 : BitVec 32 := Scalar.muli arg0 c1024_i32
  let c56_i32 : BitVec 32 := 56#32
  let c0_i32_982 : BitVec 32 := 0#32
  ![v34.toNat, 56, 0]
def k1_off60 (i : grid1.Coords) : Fin 3 → Nat :=
  let arg0 : BitVec 32 := BitVec.ofNat 32 (i 0).val
  let c1024_i32 : BitVec 32 := 1024#32
  let v34 : BitVec 32 := Scalar.muli arg0 c1024_i32
  let c57_i32 : BitVec 32 := 57#32
  let c0_i32_999 : BitVec 32 := 0#32
  ![v34.toNat, 57, 0]
def k1_off61 (i : grid1.Coords) : Fin 3 → Nat :=
  let arg0 : BitVec 32 := BitVec.ofNat 32 (i 0).val
  let c1024_i32 : BitVec 32 := 1024#32
  let v34 : BitVec 32 := Scalar.muli arg0 c1024_i32
  let c58_i32 : BitVec 32 := 58#32
  let c0_i32_1016 : BitVec 32 := 0#32
  ![v34.toNat, 58, 0]
def k1_off62 (i : grid1.Coords) : Fin 3 → Nat :=
  let arg0 : BitVec 32 := BitVec.ofNat 32 (i 0).val
  let c1024_i32 : BitVec 32 := 1024#32
  let v34 : BitVec 32 := Scalar.muli arg0 c1024_i32
  let c59_i32 : BitVec 32 := 59#32
  let c0_i32_1033 : BitVec 32 := 0#32
  ![v34.toNat, 59, 0]
def k1_off63 (i : grid1.Coords) : Fin 3 → Nat :=
  let arg0 : BitVec 32 := BitVec.ofNat 32 (i 0).val
  let c1024_i32 : BitVec 32 := 1024#32
  let v34 : BitVec 32 := Scalar.muli arg0 c1024_i32
  let c60_i32 : BitVec 32 := 60#32
  let c0_i32_1050 : BitVec 32 := 0#32
  ![v34.toNat, 60, 0]
def k1_off64 (i : grid1.Coords) : Fin 3 → Nat :=
  let arg0 : BitVec 32 := BitVec.ofNat 32 (i 0).val
  let c1024_i32 : BitVec 32 := 1024#32
  let v34 : BitVec 32 := Scalar.muli arg0 c1024_i32
  let c61_i32 : BitVec 32 := 61#32
  let c0_i32_1067 : BitVec 32 := 0#32
  ![v34.toNat, 61, 0]
def k1_off65 (i : grid1.Coords) : Fin 3 → Nat :=
  let arg0 : BitVec 32 := BitVec.ofNat 32 (i 0).val
  let c1024_i32 : BitVec 32 := 1024#32
  let v34 : BitVec 32 := Scalar.muli arg0 c1024_i32
  let c62_i32 : BitVec 32 := 62#32
  let c0_i32_1084 : BitVec 32 := 0#32
  ![v34.toNat, 62, 0]
def k1_off66 (i : grid1.Coords) : Fin 3 → Nat :=
  let arg0 : BitVec 32 := BitVec.ofNat 32 (i 0).val
  let c1024_i32 : BitVec 32 := 1024#32
  let v34 : BitVec 32 := Scalar.muli arg0 c1024_i32
  let c63_i32 : BitVec 32 := 63#32
  let c0_i32_1101 : BitVec 32 := 0#32
  ![v34.toNat, 63, 0]
def k1_cond3 (i : grid1.Coords) : BitVec 1 :=
  let arg0 : BitVec 32 := BitVec.ofNat 32 (i 0).val
  let c1_i32_1113 : BitVec 32 := 1#32
  let v1309 : BitVec 1 := Scalar.cmpi .eq arg0 c1_i32_1113
  let v1310 : BitVec 32 := Scalar.extui v1309
  let c0_i32_1114 : BitVec 32 := 0#32
  let v1311 : BitVec 1 := Scalar.cmpi .ne v1310 c0_i32_1114
  v1311

def k1_off67 (i : grid1.Coords) : Fin 3 → Nat :=
  let arg0 : BitVec 32 := BitVec.ofNat 32 (i 0).val
  let c1024_i32 : BitVec 32 := 1024#32
  let v34 : BitVec 32 := Scalar.muli arg0 c1024_i32
  let c62_i32_1116 : BitVec 32 := 62#32
  let c0_i32_1118 : BitVec 32 := 0#32
  ![v34.toNat, 62, 0]
def k1_off68 (i : grid1.Coords) : Fin 3 → Nat :=
  let arg0 : BitVec 32 := BitVec.ofNat 32 (i 0).val
  let c1024_i32 : BitVec 32 := 1024#32
  let v34 : BitVec 32 := Scalar.muli arg0 c1024_i32
  let c63_i32_1122 : BitVec 32 := 63#32
  let c0_i32_1124 : BitVec 32 := 0#32
  ![v34.toNat, 63, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x96 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== ReferenceIdeal.lean ====
abbrev S2048x32 : Shape := ⟨2, ![2048, 32]⟩
abbrev S2048x64x8 : Shape := ⟨3, ![2048, 64, 8]⟩
abbrev S2048x64x32 : Shape := ⟨3, ![2048, 64, 32]⟩
abbrev S32x512 : Shape := ⟨2, ![32, 512]⟩
abbrev S512 : Shape := ⟨1, ![512]⟩
abbrev S512x512 : Shape := ⟨2, ![512, 512]⟩
abbrev S512x96 : Shape := ⟨2, ![512, 96]⟩
abbrev S96 : Shape := ⟨1, ![96]⟩
abbrev S128x128 : Shape := ⟨2, ![128, 128]⟩
abbrev S8x128 : Shape := ⟨2, ![8, 128]⟩
abbrev S2048x512 : Shape := ⟨2, ![2048, 512]⟩
abbrev S1x512 : Shape := ⟨2, ![1, 512]⟩
abbrev S_ : Shape := ⟨0, ![]⟩
abbrev S2048x96 : Shape := ⟨2, ![2048, 96]⟩
abbrev S1x96 : Shape := ⟨2, ![1, 96]⟩
abbrev S2048x128 : Shape := ⟨2, ![2048, 128]⟩
abbrev S131072x32 : Shape := ⟨2, ![131072, 32]⟩
abbrev S131072x512 : Shape := ⟨2, ![131072, 512]⟩
abbrev S131072x96 : Shape := ⟨2, ![131072, 96]⟩
abbrev S131072x128 : Shape := ⟨2, ![131072, 128]⟩
abbrev S2048x64x128 : Shape := ⟨3, ![2048, 64, 128]⟩
abbrev S128x2048x64 : Shape := ⟨3, ![128, 2048, 64]⟩
abbrev S64x2048x128 : Shape := ⟨3, ![64, 2048, 128]⟩
abbrev S1x2048x128 : Shape := ⟨3, ![1, 2048, 128]⟩

abbrev nBuf : Space → Nat
  | .hbm => 93
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S2048x64x8, .f32⟩
  | .hbm, ⟨2, _⟩ => ⟨S2048x64x32, .f32⟩
  | .hbm, ⟨3, _⟩ => ⟨S32x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x96, .f32⟩
  | .hbm, ⟨10, _⟩ => ⟨S96, .f32⟩
  | .hbm, ⟨11, _⟩ => ⟨S128x128, .f32⟩
  | .hbm, ⟨12, _⟩ => ⟨S8x128, .f32⟩
  | .hbm, ⟨13, _⟩ => ⟨S2048x512, .f32⟩
  | .hbm, ⟨14, _⟩ => ⟨S1x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S1x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S1x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x96, .f32⟩
  | .hbm, ⟨35, _⟩ => ⟨S1x96, .f32⟩
  | .hbm, ⟨36, _⟩ => ⟨S2048x96, .f32⟩
  | .hbm, ⟨37, _⟩ => ⟨S2048x96, .f32⟩
  | .hbm, ⟨38, _⟩ => ⟨S2048x128, .f32⟩
  | .hbm, ⟨39, _⟩ => ⟨S131072x32, .f32⟩
  | .hbm, ⟨40, _⟩ => ⟨S131072x512, .f32⟩
  | .hbm, ⟨41, _⟩ => ⟨S1x512, .f32⟩
  | .hbm, ⟨42, _⟩ => ⟨S131072x512, .f32⟩
  | .hbm, ⟨43, _⟩ => ⟨S131072x512, .f32⟩
  | .hbm, ⟨44, _⟩ => ⟨S_, .f32⟩
  | .hbm, ⟨45, _⟩ => ⟨S131072x512, .f32⟩
  | .hbm, ⟨46, _⟩ => ⟨S131072x512, .f32⟩
  | .hbm, ⟨47, _⟩ => ⟨S131072x512, .f32⟩
  | .hbm, ⟨48, _⟩ => ⟨S1x512, .f32⟩
  | .hbm, ⟨49, _⟩ => ⟨S131072x512, .f32⟩
  | .hbm, ⟨50, _⟩ => ⟨S131072x512, .f32⟩
  | .hbm, ⟨51, _⟩ => ⟨S_, .f32⟩
  | .hbm, ⟨52, _⟩ => ⟨S131072x512, .f32⟩
  | .hbm, ⟨53, _⟩ => ⟨S131072x512, .f32⟩
  | .hbm, ⟨54, _⟩ => ⟨S131072x512, .f32⟩
  | .hbm, ⟨55, _⟩ => ⟨S1x512, .f32⟩
  | .hbm, ⟨56, _⟩ => ⟨S131072x512, .f32⟩
  | .hbm, ⟨57, _⟩ => ⟨S131072x512, .f32⟩
  | .hbm, ⟨58, _⟩ => ⟨S_, .f32⟩
  | .hbm, ⟨59, _⟩ => ⟨S131072x512, .f32⟩
  | .hbm, ⟨60, _⟩ => ⟨S131072x512, .f32⟩
  | .hbm, ⟨61, _⟩ => ⟨S131072x96, .f32⟩
  | .hbm, ⟨62, _⟩ => ⟨S1x96, .f32⟩
  | .hbm, ⟨63, _⟩ => ⟨S131072x96, .f32⟩
  | .hbm, ⟨64, _⟩ => ⟨S131072x96, .f32⟩
  | .hbm, ⟨65, _⟩ => ⟨S131072x128, .f32⟩
  | .hbm, ⟨66, _⟩ => ⟨S2048x64x128, .f32⟩
  | .hbm, ⟨67, _⟩ => ⟨S128x2048x64, .f32⟩
  | .hbm, ⟨68, _⟩ => ⟨S64x2048x128, .f32⟩
  | .hbm, ⟨69, _⟩ => ⟨S_, .f32⟩
  | .hbm, ⟨70, _⟩ => ⟨S64x2048x128, .f32⟩
  | .hbm, ⟨71, _⟩ => ⟨S_, .i32⟩
  | .hbm, ⟨72, _⟩ => ⟨S64x2048x128, .f32⟩
  | .hbm, ⟨73, _⟩ => ⟨S128x128, .f32⟩
  | .hbm, ⟨74, _⟩ => ⟨S_, .i32⟩
  | .hbm, ⟨75, _⟩ => ⟨S2048x128, .f32⟩
  | .hbm, ⟨76, _⟩ => ⟨S64x2048x128, .f32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S1x2048x128, .f32⟩
  | .hbm, ⟨82, _⟩ => ⟨S2048x128, .f32⟩
  | .hbm, ⟨83, _⟩ => ⟨S2048x128, .f32⟩
  | .hbm, ⟨84, _⟩ => ⟨S2048x128, .f32⟩
  | .hbm, ⟨85, _⟩ => ⟨S1x2048x128, .f32⟩
  | .hbm, ⟨86, _⟩ => ⟨S_, .i32⟩
  | .hbm, ⟨87, _⟩ => ⟨S_, .i32⟩
  | .hbm, ⟨88, _⟩ => ⟨S64x2048x128, .f32⟩
  | .hbm, ⟨89, _⟩ => ⟨S_, .i32⟩
  | .hbm, ⟨90, _⟩ => ⟨S_, .i32⟩
  | .hbm, ⟨91, _⟩ => ⟨S2048x64x128, .f32⟩
  | .hbm, ⟨92, _⟩ => ⟨S2048x64x32, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call3_cst : Ref sig .tc := ⟨.hbm, 44, rfl⟩
abbrev main_call3_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call4_cst : Ref sig .tc := ⟨.hbm, 51, rfl⟩
abbrev main_call4_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call5_cst : Ref sig .tc := ⟨.hbm, 58, rfl⟩
abbrev main_call5_v0 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst : Ref sig .tc := ⟨.hbm, 69, rfl⟩
abbrev main_v44 : Ref sig .tc := ⟨.hbm, 70, rfl⟩
abbrev main_c : Ref sig .tc := ⟨.hbm, 71, rfl⟩
abbrev main_v45_0 : Ref sig .tc := ⟨.hbm, 72, rfl⟩
abbrev main_v45_1 : Ref sig .tc := ⟨.hbm, 73, rfl⟩
abbrev main_v45_2 : Ref sig .tc := ⟨.hbm, 74, rfl⟩
abbrev main_v45_3 : Ref sig .tc := ⟨.hbm, 75, rfl⟩
abbrev main_v45_4 : Ref sig .tc := ⟨.hbm, 76, rfl⟩
abbrev main_while0c_c_4 : Ref sig .tc := ⟨.hbm, 77, rfl⟩
abbrev main_while0c_v48 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_v0 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_call7_v0 : Ref sig .tc := ⟨.hbm, 85, rfl⟩
abbrev main_while0b_call7_c : Ref sig .tc := ⟨.hbm, 86, rfl⟩
abbrev main_while0b_call7_c_0 : Ref sig .tc := ⟨.hbm, 87, rfl⟩
abbrev main_while0b_v51 : Ref sig .tc := ⟨.hbm, 88, rfl⟩
abbrev main_while0b_c_4 : Ref sig .tc := ⟨.hbm, 89, rfl⟩
abbrev main_while0b_v52 : Ref sig .tc := ⟨.hbm, 90, rfl⟩
abbrev main_v46 : Ref sig .tc := ⟨.hbm, 91, rfl⟩
abbrev main_v47 : Ref sig .tc := ⟨.hbm, 92, rfl⟩

abbrev nD : Nat := 1
abbrev τ : Topo := Topo.v7x

variable {F : FTy → Type} [FloatOps F]

abbrev main_while0_count : Scf.Loop 32 := ⟨0#32, 64#32, 1#32⟩
-- ==== Proof.Steps.lean ====
/-
  The second call's body, written as the loop it unrolls. The printed body has no loop: it is the encoder's nine loads
  followed by 64 copies of one step. `step` is that step, `steps` runs a number of them from a given one, and
  `body_eq_first` / `body_eq_last` say that the printed body at each of the two grid points is the prologue, `steps`
  from step 0, and, at the last point, the two final waits.
-/
module

public import proofs.«01_k».proof.Proof.Gen.KernelIdeal.Launch
public import proofs.«01_k».proof.Proof.Gen.KernelIdeal.Skeleton

@[expose] public section

noncomputable section

namespace Cert.KernelIdeal.Koop

open Idealize.ShloMosaic Idealize.SL.Sem
open Cert.KernelIdeal Cert.KernelIdeal.Gen

variable {F : FTy → Type} [FloatOps F]

/-- The operations the body is made of. -/
abbrev Ops : Type → Type := TpuEff nD τ sig (Elt F) Λ₀ .tc

/-- The state after one step: `z a + u^T b`. -/
def next (a : Vec F S128x128 .f32) (b : Vec F S8x128 .f32) (z : FVec F S1024x128 .f32) (u : Vec F S8x1024 .f32) : FVec F S1024x128 .f32 :=
  k1_pay3 z a b u

/-- Step `t` reads rows `8 t … 8 t + 7` of the block of inputs. -/
theorem inputs_inb (t : ℕ) (ht : t < 64) : ∀ x, (![8 * t, 0] : Fin 2 → ℕ) x + S8x1024.size x ≤ S512x1024.size x := by
  intro x; fin_cases x
  · show 8 * t + 8 ≤ 512; omega
  · show 0 + 1024 ≤ 1024; omega

/-- The slot of the staging buffer that step `t` fills: `t` modulo 2. -/
theorem slot_inb (t : ℕ) : ∀ x, (![t % 2, 0, 0] : Fin 3 → ℕ) x + S1x1024x128.size x ≤ S2x1024x128.size x := by
  intro x; fin_cases x
  · show t % 2 + 1 ≤ 2; omega
  · show 0 + 1024 ≤ 1024; omega
  · show 0 + 128 ≤ 128; omega

/-- That slot's semaphore. -/
theorem sem_inb (t : ℕ) : ∀ x, (![t % 2] : Fin 1 → ℕ) x + S1.size x ≤ S2.size x := by
  intro x; fin_cases x
  show t % 2 + 1 ≤ 2; omega

/-- Where grid point `i`'s step `t` puts its state: the rows of the point, at time `t`. -/
def off (i : grid1.Coords) (t : ℕ) : Fin 3 → ℕ := ![(Scalar.muli (BitVec.ofNat 32 (i 0).val) 1024#32).toNat, t, 0]

theorem off_inb (i : grid1.Coords) (t : ℕ) (ht : t < 64) : ∀ x, off i t x + S1024x1x128.size x ≤ S2048x64x128.size x := by
  have h := k1_off2_inb i 0
  intro x; fin_cases x
  · exact h
  · show t + 1 ≤ 64; omega
  · show 0 + 128 ≤ 128; omega

/-- The slot's semaphore, as the body names it. -/
abbrev slotSem (sems : DmaSems sig S2) (t : ℕ) : DmaSems sig S_ :=
  (sems.slice (Rect.unit (s := S2) ![t % 2] S1.size (sem_inb t))).squeeze S_ squeezes_S1_S_

/-- The slot of the staging buffer, as the body names it. -/
abbrev slotRect (t : ℕ) : Rect S2x1024x128 := Rect.unit (s := S2x1024x128) ![t % 2, 0, 0] S1x1024x128.size (slot_inb t)

abbrev slotRef (stage : Memref sig .tc .vmem S2x1024x128 .f32) (t : ℕ) : Memref sig .tc .vmem S1024x128 .f32 :=
  (stage.slice (slotRect t) (fun _ => rfl)).squeeze S1024x128 squeezes_S1x1024x128_S1024x128

/-- The piece of the result that grid point `i`'s step `t` writes. -/
abbrev piece (out : Memref sig .tc .hbm S2048x64x128 .f32) (i : grid1.Coords) (t : ℕ) (ht : t < 64) : Memref sig .tc .hbm S1024x128 .f32 :=
  (out.slice (Rect.unit (s := S2048x64x128) (off i t) S1024x1x128.size (off_inb i t ht)) (fun _ => rfl)).squeeze S1024x128
    squeezes_S1024x1x128_S1024x128

/-- The wait of step `t`, for the copy that the slot's semaphore counts, and then `k`. -/
def wait (out : Memref sig .tc .hbm S2048x64x128 .f32) (stage : Memref sig .tc .vmem S2x1024x128 .f32) (sems : DmaSems sig S2)
    (i : grid1.Coords) (t : ℕ) (ht : t < 64) (k : Prog (Ops (F := F)) PUnit) : Prog (Ops (F := F)) PUnit :=
  .op (.waitDma2 (slotSem sems t).sem (slotRef stage t) (piece out i t ht) ((View.wordExact_bits rfl).reshape _ _) ((View.wordExact_bits rfl).reshape _ _))
    fun _ => k

/-- The rest of a step after its wait: put the new state in the slot and start its copy to the result; then `k`. -/
def send (out : Memref sig .tc .hbm S2048x64x128 .f32) (stage : Memref sig .tc .vmem S2x1024x128 .f32) (sems : DmaSems sig S2)
    (i : grid1.Coords) (t : ℕ) (ht : t < 64) (z : FVec F S1024x128 .f32) (k : Prog (Ops (F := F)) PUnit) : Prog (Ops (F := F)) PUnit :=
  .op (.load stage (slotRect t).toLoadRect (View.loadsAt_vmem h_S1x1024x128)) fun _ =>
  .op (.store stage (slotRect t) (shapeCast S1x1024x128 z shapeCasts_S1024x128_S1x1024x128) Finset.univ (View.stores_vmem_bits_univ h_S1x1024x128 rfl) (.inl rfl)) fun _ =>
  .op (.enqueueDma (slotRef stage t) (.here (piece out i t ht)) (.dma (slotSem sems t).sem) ((View.wordExact_bits rfl).reshape _ _) ((View.wordExact_bits rfl).reshape _ _) ⟨Or.inl rfl, trivial⟩) fun _ =>
  k

/-- One step from the state `z`: read the step's inputs, wait for the slot's last copy (if `w`), and send the new state off. -/
def step (ut : Memref sig .tc .vmem S512x1024 .f32) (out : Memref sig .tc .hbm S2048x64x128 .f32) (stage : Memref sig .tc .vmem S2x1024x128 .f32)
    (sems : DmaSems sig S2) (i : grid1.Coords) (a : Vec F S128x128 .f32) (b : Vec F S8x128 .f32) (w : Bool) (t : ℕ) (ht : t < 64)
    (z : FVec F S1024x128 .f32) (k : FVec F S1024x128 .f32 → Prog (Ops (F := F)) PUnit) : Prog (Ops (F := F)) PUnit :=
  .op (.load ut (Rect.unit (s := S512x1024) ![8 * t, 0] S8x1024.size (inputs_inb t ht)).toLoadRect (View.loadsAt_vmem h_S8x1024)) fun u =>
  match w with
  | true => wait out stage sems i t ht (send out stage sems i t ht (next a b z u) (k (next a b z u)))
  | false => send out stage sems i t ht (next a b z u) (k (next a b z u))

/-- `n` steps from step `t` on, and then `k`. The first two steps of the 64 wait only if `w`. -/
def steps (ut : Memref sig .tc .vmem S512x1024 .f32) (out : Memref sig .tc .hbm S2048x64x128 .f32) (stage : Memref sig .tc .vmem S2x1024x128 .f32)
    (sems : DmaSems sig S2) (i : grid1.Coords) (a : Vec F S128x128 .f32) (b : Vec F S8x128 .f32) (w : Bool)
    (k : FVec F S1024x128 .f32 → Prog (Ops (F := F)) PUnit) :
    (n t : ℕ) → t + n ≤ 64 → FVec F S1024x128 .f32 → Prog (Ops (F := F)) PUnit
  | 0, _, _, z => k z
  | n + 1, t, h, z =>
    step ut out stage sems i a b (w || decide (2 ≤ t)) t (by omega) z fun z' =>
      steps ut out stage sems i a b w k n (t + 1) (by omega) z'

/-- The body: the lift of the block's states, 64 steps, and, if `d`, the wait for the last two copies. -/
def body (i : grid1.Coords) (x : Memref sig .tc .vmem S1024x32 .f32) (ut : Memref sig .tc .vmem S512x1024 .f32)
    (w1 : Memref sig .tc .vmem S32x512 .f32) (b1 : Memref sig .tc .vmem S1x512 .f32) (w2 : Memref sig .tc .vmem S512x512 .f32)
    (b2 : Memref sig .tc .vmem S1x512 .f32) (w3 : Memref sig .tc .vmem S512x512 .f32) (b3 : Memref sig .tc .vmem S1x512 .f32)
    (wo : Memref sig .tc .vmem S512x96 .f32) (bo : Memref sig .tc .vmem S1x96 .f32) (a : Memref sig .tc .vmem S128x128 .f32)
    (b : Memref sig .tc .vmem S8x128 .f32) (out : Memref sig .tc .hbm S2048x64x128 .f32) (stage : Memref sig .tc .vmem S2x1024x128 .f32)
    (sems : DmaSems sig S2) (w d : Bool) : Prog (Ops (F := F)) PUnit :=
  .op (.load x (Rect.unit (s := S1024x32) ![0, 0] S1024x32.size inb_S1024x32_S1024x32_0_0).toLoadRect (View.loadsAt_vmem h_S1024x32)) fun v0 =>
  .op (.load w1 (Rect.unit (s := S32x512) ![0, 0] S32x512.size inb_S32x512_S32x512_0_0).toLoadRect (View.loadsAt_vmem h_S32x512)) fun v1 =>
  .op (.load b1 (Rect.unit (s := S1x512) ![0, 0] S1x512.size inb_S1x512_S1x512_0_0).toLoadRect (View.loadsAt_vmem h_S1x512)) fun v2 =>
  .op (.load w2 (Rect.unit (s := S512x512) ![0, 0] S512x512.size inb_S512x512_S512x512_0_0).toLoadRect (View.loadsAt_vmem h_S512x512)) fun v4 =>
  .op (.load b2 (Rect.unit (s := S1x512) ![0, 0] S1x512.size inb_S1x512_S1x512_0_0).toLoadRect (View.loadsAt_vmem h_S1x512)) fun v5 =>
  .op (.load w3 (Rect.unit (s := S512x512) ![0, 0] S512x512.size inb_S512x512_S512x512_0_0).toLoadRect (View.loadsAt_vmem h_S512x512)) fun v7 =>
  .op (.load b3 (Rect.unit (s := S1x512) ![0, 0] S1x512.size inb_S1x512_S1x512_0_0).toLoadRect (View.loadsAt_vmem h_S1x512)) fun v8 =>
  .op (.load wo (Rect.unit (s := S512x96) ![0, 0] S512x96.size inb_S512x96_S512x96_0_0).toLoadRect (View.loadsAt_vmem h_S512x96)) fun v10 =>
  .op (.load bo (Rect.unit (s := S1x96) ![0, 0] S1x96.size inb_S1x96_S1x96_0_0).toLoadRect (View.loadsAt_vmem h_S1x96)) fun v11 =>
  .op (.load a (Rect.unit (s := S128x128) ![0, 0] S128x128.size inb_S128x128_S128x128_0_0).toLoadRect (View.loadsAt_vmem h_S128x128)) fun v32 =>
  .op (.load b (Rect.unit (s := S8x128) ![0, 0] S8x128.size inb_S8x128_S8x128_0_0).toLoadRect (View.loadsAt_vmem h_S8x128)) fun v33 =>
  steps ut out stage sems i v32 v33 w (fun _ => match d with
    | true => wait out stage sems i 62 (by omega) (wait out stage sems i 63 (by omega) (.ret ⟨⟩))
    | false => .ret ⟨⟩) 64 0 (by omega) (k1_pay2 v0 v1 v2 v4 v5 v7 v8 v10 v11)

set_option maxHeartbeats 0 in
set_option maxRecDepth 65536 in
/-- At the first grid point no copy is in flight yet and none is waited for at the end. -/
theorem body_eq_first (x : Memref sig .tc .vmem S1024x32 .f32) (hx ut hut w1 hw1 b1 hb1 w2 hw2 b2 hb2 w3 hw3 b3 hb3 wo hwo bo hbo a ha b hb out hout stage hstage sems) :
    cc1_koopman_recurrence (F := F) (grid1.coords ⟨0, by decide⟩) x hx ut hut w1 hw1 b1 hb1 w2 hw2 b2 hb2 w3 hw3 b3 hb3 wo hwo bo hbo a ha b hb out hout stage hstage sems
      = body (grid1.coords ⟨0, by decide⟩) x ut w1 b1 w2 b2 w3 b3 wo bo a b out stage sems false false := by
  have h1 : ¬ k1_cond1 (grid1.coords ⟨0, by decide⟩) = 1#1 := by decide
  have h2 : ¬ k1_cond2 (grid1.coords ⟨0, by decide⟩) = 1#1 := by decide
  have h3 : ¬ k1_cond3 (grid1.coords ⟨0, by decide⟩) = 1#1 := by decide
  simp (config := { maxSteps := 100000000 }) only [cc1_koopman_recurrence_eq_skeleton, cc1_koopman_recurrence_skel, k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, k1_part18_eq_skeleton, k1_part18_skel, k1_part19_eq_skeleton, k1_part19_skel, k1_part20_eq_skeleton, k1_part20_skel, k1_part21_eq_skeleton, k1_part21_skel, k1_part22_eq_skeleton, k1_part22_skel, k1_part23_eq_skeleton, k1_part23_skel, k1_part24_eq_skeleton, k1_part24_skel, k1_part25_eq_skeleton, k1_part25_skel, k1_part26_eq_skeleton, k1_part26_skel, k1_part27_eq_skeleton, k1_part27_skel, k1_part28_eq_skeleton, k1_part28_skel, k1_part29_eq_skeleton, k1_part29_skel, k1_part30_eq_skeleton, k1_part30_skel, k1_part31_eq_skeleton, k1_part31_skel, k1_part32_eq_skeleton, k1_part32_skel, k1_part33_eq_skeleton, k1_part33_skel, k1_part34_eq_skeleton, k1_part34_skel, k1_part35_eq_skeleton, k1_part35_skel, k1_part36_eq_skeleton, k1_part36_skel, k1_part37_eq_skeleton, k1_part37_skel, k1_part38_eq_skeleton, k1_part38_skel, k1_part39_eq_skeleton, k1_part39_skel, k1_part40_eq_skeleton, k1_part40_skel, k1_part41_eq_skeleton, k1_part41_skel, k1_part42_eq_skeleton, k1_part42_skel, k1_part43_eq_skeleton, k1_part43_skel, k1_part44_eq_skeleton, k1_part44_skel, k1_part45_eq_skeleton, k1_part45_skel, k1_part46_eq_skeleton, k1_part46_skel, h1, h2, h3, dif_pos, dif_neg, not_false_eq_true, Prog.bind_lift, Prog.bind_op, Prog.bind_ret, Prog.pure_eq_ret]
  rfl

set_option maxHeartbeats 0 in
set_option maxRecDepth 65536 in
/-- At the last grid point every step waits, and the last two copies are waited for at the end. -/
theorem body_eq_last (x : Memref sig .tc .vmem S1024x32 .f32) (hx ut hut w1 hw1 b1 hb1 w2 hw2 b2 hb2 w3 hw3 b3 hb3 wo hwo bo hbo a ha b hb out hout stage hstage sems) :
    cc1_koopman_recurrence (F := F) (grid1.coords ⟨1, by decide⟩) x hx ut hut w1 hw1 b1 hb1 w2 hw2 b2 hb2 w3 hw3 b3 hb3 wo hwo bo hbo a ha b hb out hout stage hstage sems
      = body (grid1.coords ⟨1, by decide⟩) x ut w1 b1 w2 b2 w3 b3 wo bo a b out stage sems true true := by
  have h1 : k1_cond1 (grid1.coords ⟨1, by decide⟩) = 1#1 := by decide
  have h2 : k1_cond2 (grid1.coords ⟨1, by decide⟩) = 1#1 := by decide
  have h3 : k1_cond3 (grid1.coords ⟨1, by decide⟩) = 1#1 := by decide
  simp (config := { maxSteps := 100000000 }) only [cc1_koopman_recurrence_eq_skeleton, cc1_koopman_recurrence_skel, k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, k1_part18_eq_skeleton, k1_part18_skel, k1_part19_eq_skeleton, k1_part19_skel, k1_part20_eq_skeleton, k1_part20_skel, k1_part21_eq_skeleton, k1_part21_skel, k1_part22_eq_skeleton, k1_part22_skel, k1_part23_eq_skeleton, k1_part23_skel, k1_part24_eq_skeleton, k1_part24_skel, k1_part25_eq_skeleton, k1_part25_skel, k1_part26_eq_skeleton, k1_part26_skel, k1_part27_eq_skeleton, k1_part27_skel, k1_part28_eq_skeleton, k1_part28_skel, k1_part29_eq_skeleton, k1_part29_skel, k1_part30_eq_skeleton, k1_part30_skel, k1_part31_eq_skeleton, k1_part31_skel, k1_part32_eq_skeleton, k1_part32_skel, k1_part33_eq_skeleton, k1_part33_skel, k1_part34_eq_skeleton, k1_part34_skel, k1_part35_eq_skeleton, k1_part35_skel, k1_part36_eq_skeleton, k1_part36_skel, k1_part37_eq_skeleton, k1_part37_skel, k1_part38_eq_skeleton, k1_part38_skel, k1_part39_eq_skeleton, k1_part39_skel, k1_part40_eq_skeleton, k1_part40_skel, k1_part41_eq_skeleton, k1_part41_skel, k1_part42_eq_skeleton, k1_part42_skel, k1_part43_eq_skeleton, k1_part43_skel, k1_part44_eq_skeleton, k1_part44_skel, k1_part45_eq_skeleton, k1_part45_skel, k1_part46_eq_skeleton, k1_part46_skel, h1, h2, h3, dif_pos, dif_neg, not_false_eq_true, Prog.bind_lift, Prog.bind_op, Prog.bind_ret, Prog.pure_eq_ret]
  rfl

end Cert.KernelIdeal.Koop

end
-- ==== Proof.Places.lean ====
/-
  Where the copies of the second call go. The result is `2048 x 64 x 128`: 2048 rows, 64 times. Row block `i` (1024
  rows) at time `t` is written by step `t` of grid point `i`, the step of number `64 i + t` in the order the steps run.
  `stamp j` is the number of the step that writes element `j`; `before n` are the elements of the steps below `n`,
  `at_ n` those of step `n`, `from_ n` those of step `n` and later ones. The staging buffer has two slots: `slot s`.
-/
module

public import proofs.«01_k».proof.Proof.Steps
public import Idealize.ShloMosaic.Lib.Tactic
public import Idealize.ShloMosaic.Lib.ValueIdx

@[expose] public section

noncomputable section

namespace Cert.KernelIdeal.Koop

open Idealize.ShloMosaic Idealize.ShloMosaic.ValueIdx Idealize.SL.Sem
open Cert.KernelIdeal Cert.KernelIdeal.Gen

/-- The result of the call, in the main memory. -/
abbrev outM : Memref sig .tc .hbm S2048x64x128 .f32 := Memref.whole main_v9

/-- The staging buffer. -/
abbrev stageM : Memref sig .tc .vmem S2x1024x128 .f32 := Memref.whole cc1_scratch0

/-- The number of the step that writes element `j`. -/
def stamp (j : S2048x64x128.Idx) : ℕ := 64 * ((j 0).val / 1024) + (j 1).val

/-- The elements that the steps below `n` write. -/
def before (n : ℕ) : Finset S2048x64x128.Idx := Finset.univ.filter fun j => stamp j < n
/-- The elements that step `n` writes. -/
def at_ (n : ℕ) : Finset S2048x64x128.Idx := Finset.univ.filter fun j => stamp j = n
/-- The elements that step `n` and the later ones write. -/
def from_ (n : ℕ) : Finset S2048x64x128.Idx := Finset.univ.filter fun j => n ≤ stamp j
/-- Slot `s` of the staging buffer. -/
def slot (s : ℕ) : Finset S2x1024x128.Idx := Finset.univ.filter fun j => (j 0).val = s

theorem before_zero : before 0 = ∅ := by simp [before]
theorem from_zero : from_ 0 = Finset.univ := by simp [from_]
theorem before_succ (n : ℕ) : before (n + 1) = before n ∪ at_ n := by
  ext j; simp only [before, at_, Finset.mem_union, Finset.mem_filter, Finset.mem_univ, true_and]; omega
theorem before_disj (n : ℕ) : Disjoint (before n) (at_ n) := by
  rw [Finset.disjoint_left]; intro j; simp only [before, at_, Finset.mem_filter, Finset.mem_univ, true_and]; omega
theorem from_succ (n : ℕ) : from_ n = at_ n ∪ from_ (n + 1) := by
  ext j; simp only [from_, at_, Finset.mem_union, Finset.mem_filter, Finset.mem_univ, true_and]; omega
theorem from_disj (n : ℕ) : Disjoint (at_ n) (from_ (n + 1)) := by
  rw [Finset.disjoint_left]; intro j; simp only [from_, at_, Finset.mem_filter, Finset.mem_univ, true_and]; omega

theorem stamp_lt (j : S2048x64x128.Idx) : stamp j < 128 := by
  have h0 : (j 0).val < 2048 := (j 0).isLt
  have h1 : (j 1).val < 64 := (j 1).isLt
  unfold stamp; omega
/-- After all 128 steps every element is written. -/
theorem before_all : before 128 = Finset.univ := by
  ext j; simp only [before, Finset.mem_filter, Finset.mem_univ, true_and, iff_true]; exact stamp_lt j
theorem from_all : from_ 128 = ∅ := by
  ext j; simp only [from_, Finset.mem_filter, Finset.mem_univ, true_and, Finset.notMem_empty, iff_false]; have := stamp_lt j; omega

/-- The two slots are the staging buffer. -/
theorem slots_all : slot 0 ∪ slot 1 = Finset.univ := by
  ext j
  have h : (j 0).val < 2 := (j 0).isLt
  simp only [slot, Finset.mem_union, Finset.mem_filter, Finset.mem_univ, true_and, iff_true]; omega
theorem slots_disj : Disjoint (slot 0) (slot 1) := by
  rw [Finset.disjoint_left]; intro j; simp only [slot, Finset.mem_filter, Finset.mem_univ, true_and]; omega

/-- Grid point `i` has the rows from `1024 i` on. -/
theorem rows_eq (i : grid1.Coords) : (Scalar.muli (BitVec.ofNat 32 (i 0).val) 1024#32).toNat = 1024 * (i 0).val := by
  have h : (i 0).val < 2 := (i 0).isLt
  generalize (i 0).val = n at h
  obtain rfl | rfl : n = 0 ∨ n = 1 := by omega
  · rfl
  · rfl

theorem mem_at {n : ℕ} {j : S2048x64x128.Idx} : j ∈ at_ n ↔ stamp j = n := by
  simp only [at_, Finset.mem_filter, Finset.mem_univ, true_and]
theorem mem_slot {s : ℕ} {j : S2x1024x128.Idx} : j ∈ slot s ↔ (j 0).val = s := by
  simp only [slot, Finset.mem_filter, Finset.mem_univ, true_and]

/-- The piece of the result that a step writes is the elements with its number. -/
theorem piece_rect (i : grid1.Coords) (t : ℕ) (ht : t < 64) :
    (Rect.unit (s := S2048x64x128) (off i t) S1024x1x128.size (off_inb i t ht)).set = at_ (64 * (i 0).val + t) := by
  ext j
  rw [Rect.mem_set_unit, mem_at]
  have h0 : (j 0).val < 2048 := (j 0).isLt
  have h1 : (j 1).val < 64 := (j 1).isLt
  have h2 : (j 2).val < 128 := (j 2).isLt
  have o0 : off i t 0 = 1024 * (i 0).val := rows_eq i
  unfold stamp
  constructor
  · intro h
    have a0 : off i t 0 ≤ (j 0).val ∧ (j 0).val < off i t 0 + 1024 := h 0
    have a1 : t ≤ (j 1).val ∧ (j 1).val < t + 1 := h 1
    rw [o0] at a0
    omega
  · intro h x
    fin_cases x
    · show off i t 0 ≤ (j 0).val ∧ (j 0).val < off i t 0 + 1024
      rw [o0]; omega
    · show t ≤ (j 1).val ∧ (j 1).val < t + 1
      omega
    · show 0 ≤ (j 2).val ∧ (j 2).val < 0 + 128
      omega

theorem piece_set (i : grid1.Coords) (t : ℕ) (ht : t < 64) : (piece outM i t ht).view.set = at_ (64 * (i 0).val + t) :=
  ((View.set_reshape _ _).trans (View.set_slice_whole main_v9 _)).trans (piece_rect i t ht)

/-- The part of the staging buffer that a step stores to and copies from is its slot. -/
theorem slotRect_set (t : ℕ) : (slotRect t).set = slot (t % 2) := by
  ext j
  rw [Rect.mem_set_unit, mem_slot]
  have h1 : (j 1).val < 1024 := (j 1).isLt
  have h2 : (j 2).val < 128 := (j 2).isLt
  constructor
  · intro h
    have a0 : t % 2 ≤ (j 0).val ∧ (j 0).val < t % 2 + 1 := h 0
    omega
  · intro h x
    fin_cases x
    · show t % 2 ≤ (j 0).val ∧ (j 0).val < t % 2 + 1; omega
    · show 0 ≤ (j 1).val ∧ (j 1).val < 0 + 1024; omega
    · show 0 ≤ (j 2).val ∧ (j 2).val < 0 + 128; omega

theorem slotRef_set (t : ℕ) : (slotRef stageM t).view.set = slot (t % 2) :=
  ((View.set_reshape _ _).trans (View.set_slice_whole cc1_scratch0 _)).trans (slotRect_set t)

theorem slotAccess_set (t : ℕ) : (stageM.access (slotRect t)).set = slot (t % 2) :=
  (View.set_slice_whole cc1_scratch0 _).trans (slotRect_set t)

/-- Steps two apart use the same semaphore. -/
theorem slotSem_congr {t t' : ℕ} (h : t % 2 = t' % 2) : slotSem cc1_scratch1 t = slotSem cc1_scratch1 t' :=
  congrArg (fun A : DmaSems sig S1 => A.squeeze S_ squeezes_S1_S_) (SemArray.slice_unit_congr _ (by rw [h]) _ _)

/-- What a step reads from the slot it has just stored its state to is the state. -/
theorem slot_read {F : FTy → Type} [FloatOps F] (t : ℕ) (f : stageM.view.ty.Contents (Elt F)) (z : FVec F S1024x128 .f32) :
    (slotRef stageM t).view.read (Elt F) ((stageM.access (slotRect t)).write (Elt F) f (shapeCast S1x1024x128 z shapeCasts_S1024x128_S1x1024x128) Finset.univ) = z := by
  funext x
  have := View.read_write_of_mem (Val := Elt F) (v := stageM.access (slotRect t)) f (shapeCast S1x1024x128 z shapeCasts_S1024x128_S1x1024x128)
    (Finset.mem_univ (Shape.reshapeEquiv (Shape.Squeezes.numel_eq squeezes_S1x1024x128_S1024x128) x))
  refine Eq.trans this ?_
  show z _ = z x
  rw [Shape.reshapeEquiv_reshapeEquiv, Shape.reshapeEquiv_self]

/-- The element of the result that a step's copy puts the state's `(r, k)` to. -/
theorem piece_emb (i : grid1.Coords) (t : ℕ) (ht : t < 64) (x : S1024x128.Idx) :
    ((((piece outM i t ht).view.emb x : S2048x64x128.Idx) 0).val = 1024 * (i 0).val + (x 0).val)
      ∧ (((piece outM i t ht).view.emb x : S2048x64x128.Idx) 1).val = t
      ∧ (((piece outM i t ht).view.emb x : S2048x64x128.Idx) 2).val = (x 1).val := by
  have e : Shape.reshapeEquiv (Shape.Squeezes.numel_eq squeezes_S1024x1x128_S1024x128) x = (ix3 (x 0) (0 : Fin 1) (x 1) : S1024x1x128.Idx) := by
    refine Shape.reshapeEquiv_eq_of_rowMajor _ ?_
    rw [Shape.rowMajor_val_three, Shape.rowMajor_val_two]
    show ((x 0).val * 1 + 0) * 128 + (x 1).val = (x 0).val * 128 + (x 1).val
    omega
  have e' : (piece outM i t ht).view.emb x = (Rect.unit (s := S2048x64x128) (off i t) S1024x1x128.size (off_inb i t ht)).emb
      (ix3 (x 0) (0 : Fin 1) (x 1) : S1024x1x128.Idx) :=
    congrArg (Rect.unit (s := S2048x64x128) (off i t) S1024x1x128.size (off_inb i t ht)).emb e
  rw [e']
  refine ⟨?_, ?_, ?_⟩
  · show off i t 0 + 1 * (x 0).val = _
    rw [show off i t 0 = 1024 * (i 0).val from rows_eq i]; omega
  · show t + 1 * 0 = t
    omega
  · show 0 + 1 * (x 1).val = (x 1).val
    omega

end Cert.KernelIdeal.Koop

end
-- ==== Proof.Copies.lean ====
/-
  The copies of the second call, in flight from one step to the next and from one grid point to the next. `Inv g` is
  what the core holds before the step of number `g`: the elements that the steps below `g - 2` wrote, at the final
  contents `H`; the elements not written yet, at anything; for each slot of the staging buffer, the slot with its
  semaphore at zero, if nothing was copied from it yet, and otherwise the copy in flight, which will give back the slot
  and the elements of its step at `H`. `step_ok` takes `Inv g` to `Inv (g + 1)`; `steps_ok` is the induction over the
  steps; `drain_ok` is the end, when the last two copies are waited for.
-/
module

public import proofs.«01_k».proof.Proof.Places
public import Idealize.ShloMosaic.Lib.Transfers
public import Idealize.ShloMosaic.Lib.ViewIndex

@[expose] public section

noncomputable section

namespace Cert.KernelIdeal.Koop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline's, and the counters that the calls' own copies use. -/
abbrev UU : Type := UR sig nD τ × Counters

local notation "𝕄" => MT nD τ sig Unit (Elt F) ℕ UU ℕ

variable (c : Dev nD)

/-- The contents of the result and of the staging buffer. -/
abbrev OutBuf : Type := Buf (Elt F) (outM.view.loc (c : Thread nD τ))
abbrev StageBuf : Type := Buf (Elt F) (stageM.view.loc (c : Thread nD τ))

/-- Elements `S` of the result, held at `f`. -/
abbrev outAt (S : Finset S2048x64x128.Idx) (f : OutBuf (F := F) c) : sProp 𝕄 :=
  outM.view.loc (c : Thread nD τ) ↦[S]{fullShare} f
/-- Elements `S` of the staging buffer, held at `f`. -/
abbrev stageAt (S : Finset S2x1024x128.Idx) (f : StageBuf (F := F) c) : sProp 𝕄 :=
  stageM.view.loc (c : Thread nD τ) ↦[S]{fullShare} f
/-- Step `g`'s semaphore. -/
abbrev semOf (g : ℕ) : SemLoc sig := SemLoc.dma (slotSem cc1_scratch1 g).sem
/-- Step `g`'s slot, held at anything. -/
abbrev slotAny (g : ℕ) : sProp 𝕄 := iprop(∃ f, stageAt (F := F) c (slot (g % 2)) f)
/-- Step `g`'s slot with its semaphore at zero. -/
abbrev free (g : ℕ) : sProp 𝕄 := iprop(semVal ((c : Thread nD τ), semOf g) 0 ∗ slotAny (F := F) c g)
/-- What one copy counts on its semaphore. -/
abbrev credit : ℕ := (piece outM (grid1.coords ⟨0, by decide⟩) 0 (by decide)).view.dmaCredit
/-- The copy of step `g - 2` in flight, from the slot that step `g` uses. -/
abbrev busy (H : OutBuf (F := F) c) (g : ℕ) : sProp 𝕄 :=
  Transfers.Flight countersEmb (c : Thread nD τ) (semOf g) () credit iprop(outAt c (at_ (g - 2)) H ∗ slotAny (F := F) c g)
/-- Step `g`'s slot before step `g`. -/
def slotBefore (H : OutBuf (F := F) c) (g : ℕ) : sProp 𝕄 := if g < 2 then free (F := F) c g else busy c H g

/-- What the core holds before the step of number `g`. -/
def Inv (H : OutBuf (F := F) c) (g : ℕ) : sProp 𝕄 :=
  iprop(outAt c (before (g - 2)) H ∗ (∃ f, outAt c (from_ g) f) ∗ slotBefore c H g ∗ slotBefore c H (g + 1)
    ∗ ∃ W, owes (c : Thread nD τ) 0 W)

variable (H : OutBuf (F := F) c)

/-- Running `p` to `Q`. -/
abbrev runs (Q : PUnit → sProp 𝕄) (p : Prog (Ops (F := F)) PUnit) : sProp 𝕄 :=
  wp frame (wpE (defs₀ (F := F)) Variants.none (c : Thread nD τ) none) Set.univ p Q

/-- A wait for the copy in flight from the step's slot gives back the slot, its semaphore and the elements the copy wrote. -/
theorem wait_ok (Q : PUnit → sProp 𝕄) (i : grid1.Coords) (t : ℕ) (ht : t < 64) (g : ℕ) (hg : g % 2 = t % 2) (k : Prog (Ops (F := F)) PUnit) :
    iprop(busy c H g ∗ ∃ W, owes (c : Thread nD τ) 0 W)
      ⊢ iprop((iprop(outAt c (at_ (g - 2)) H ∗ free (F := F) c g ∗ ∃ W, owes (c : Thread nD τ) 0 W) -∗ runs (F := F) c Q k)
        -∗ runs (F := F) c Q (wait outM stageM cc1_scratch1 i t ht k)) := by
  unfold wait
  rw [← slotSem_congr hg]
  iintro ⟨Hf, ⟨%W, HO⟩⟩ Hk
  iapply (Transfers.wp_waitLocalSized countersEmb Variants.none (c : Thread nD τ) none () (N := credit) rfl) $$ [Hf HO]
  · isplitl [Hf]; · iexact Hf
    iexact HO
  iintro ⟨⟨Hd, Hs⟩, Hv, HO⟩
  iapply Hk
  isplitl [Hd]; · iexact Hd
  isplitl [Hv Hs]
  · isplitl [Hv]; · iexact Hv
    iexact Hs
  iexists _; iexact HO

/-- The copy that step `g` starts, as step `g + 2` finds it. -/
theorem busy_next (g t : ℕ) (h : g % 2 = t % 2) :
    busy c H (g + 2) = Transfers.Flight countersEmb (c : Thread nD τ) (semOf t) () credit iprop(outAt c (at_ g) H ∗ slotAny (F := F) c t) := by
  have e1 : slotSem cc1_scratch1 (g + 2) = slotSem cc1_scratch1 t := slotSem_congr (by omega)
  have e2 : (g + 2) % 2 = t % 2 := by omega
  have e3 : g + 2 - 2 = g := rfl
  unfold busy semOf slotAny
  rw [e1, e2, e3]

/-- What the copy writes is `H` on the elements of the step. -/
theorem copied (i : grid1.Coords) (t : ℕ) (ht : t < 64) (z : FVec F S1024x128 .f32)
    (hz : (piece outM i t ht).view.read (Elt F) H = z) (fo : OutBuf (F := F) c) :
    ∀ j ∈ at_ (64 * (i 0).val + t), (piece outM i t ht).view.write (Elt F) fo z Finset.univ j = H j := by
  intro j hj
  rw [← piece_set i t ht] at hj
  obtain ⟨x, -, rfl⟩ := Finset.mem_map.mp hj
  refine View.eq_of_read_eq (v := (piece outM i t ht).view) (x := x) ?_
  rw [View.read_write_univ, hz]

/-- What the copy gives back: the elements of the step at `H`, and the slot. -/
theorem landed_ok (i : grid1.Coords) (t : ℕ) (ht : t < 64) (z : FVec F S1024x128 .f32)
    (hz : (piece outM i t ht).view.read (Elt F) H = z) (fo : OutBuf (F := F) c) (f : StageBuf (F := F) c) (g : ℕ) (hg : 64 * (i 0).val + t = g) :
    iprop(((piece outM i t ht).view.loc (c : Thread nD τ) ↦[at_ g]{fullShare}
          ((piece outM i t ht).view.write (Elt F) fo (ReadAs.same.apply ((slotRef stageM t).view.read (Elt F)
            ((stageM.access (slotRect t)).write (Elt F) f (shapeCast S1x1024x128 z shapeCasts_S1024x128_S1x1024x128) Finset.univ))) Finset.univ))
        ∗ ((slotRef stageM t).view.loc (c : Thread nD τ) ↦[(slotRef stageM t).view.set]{fullShare}
          ((stageM.access (slotRect t)).write (Elt F) f (shapeCast S1x1024x128 z shapeCasts_S1024x128_S1x1024x128) Finset.univ)))
      ⊢ (iprop(outAt c (at_ g) H ∗ slotAny (F := F) c t) : sProp 𝕄) := by
  subst hg
  refine sep_mono (Entails.of_eq ?_) ?_
  · rw [slot_read]
    exact pointsTo_congr (copied c H i t ht z hz fo)
  · rw [slotRef_set]
    iintro Hs
    iexists _; iexact Hs

/-- Storing the state to a free slot and starting its copy leaves the copy in flight, to give back the elements of the
    step at `H`, where the state is what `H` has there. -/
theorem send_ok (Q : PUnit → sProp 𝕄) (i : grid1.Coords) (t : ℕ) (ht : t < 64) (g : ℕ) (hg : 64 * (i 0).val + t = g) (z : FVec F S1024x128 .f32)
    (hz : (piece outM i t ht).view.read (Elt F) H = z) (k : Prog (Ops (F := F)) PUnit) :
    iprop(free (F := F) c g ∗ (∃ f, outAt c (at_ g) f))
      ⊢ iprop((busy c H (g + 2) -∗ runs (F := F) c Q k) -∗ runs (F := F) c Q (send outM stageM cc1_scratch1 i t ht z k)) := by
  have hp : g % 2 = t % 2 := by omega
  have hS : (stageM.access (slotRect t)).set ⊆ slot (g % 2) := by rw [slotAccess_set, hp]
  have hS' : (stageM.access (slotRect t)).setOn Finset.univ ⊆ slot (g % 2) := hS
  unfold send
  iintro ⟨⟨Hv, ⟨%f, Hs⟩⟩, ⟨%fo, Ho⟩⟩ Hk
  iapply (wp_load_rect Variants.none (c : Thread nD τ) none Set.univ hS) $$ Hs
  iintro Hs
  iapply (wp_store Variants.none (c : Thread nD τ) none Set.univ hS') $$ Hs
  iintro Hs
  iapply (Transfers.wp_dmaLocal countersEmb Variants.none (c : Thread nD τ) none () credit rfl (by decide) (Sd := at_ g) (by rw [piece_set, hg])) $$ [Hs Hv Ho]
  · isplitl [Hs]
    · rw [slotRef_set, hp]; iexact Hs
    isplitl [Ho]; · iexact Ho
    rw [← slotSem_congr hp]; iexact Hv
  iintro Hf
  iapply Hk
  rw [busy_next c H g t hp]
  iapply (Transfers.Flight_mono countersEmb (c : Thread nD τ) (landed_ok c H i t ht z hz fo f g hg)) $$ Hf

/-- The rows of the block of inputs that step `t` reads. -/
abbrev inRect (t : ℕ) (ht : t < 64) : Rect S512x1024 := Rect.unit (s := S512x1024) ![8 * t, 0] S8x1024.size (inputs_inb t ht)

/-- The block of inputs, held. -/
abbrev inputs (ut : Memref sig .tc .vmem S512x1024 .f32) (fu : Buf (Elt F) (ut.view.loc (c : Thread nD τ))) : sProp 𝕄 :=
  ut.view.loc (c : Thread nD τ) ↦[ut.view.set]{fullShare} fu

/-- A step's elements, among those not written yet. -/
theorem take_out (g : ℕ) : (iprop(∃ f, outAt (F := F) c (from_ g) f) : sProp 𝕄)
    ⊢ iprop((∃ f, outAt (F := F) c (at_ g) f) ∗ ∃ f, outAt (F := F) c (from_ (g + 1)) f) := by
  rw [from_succ]
  iintro ⟨%f, H⟩
  ihave H' := (pointsTo_union (from_disj g)).1 $$ H
  icases H' with ⟨H1, H2⟩
  isplitl [H1]
  · iexists _; iexact H1
  · iexists _; iexact H2

/-- A step's elements, joined to those of the steps before it. -/
theorem put_back (n : ℕ) : (iprop(outAt c (before n) H ∗ outAt c (at_ n) H) : sProp 𝕄) ⊢ outAt c (before (n + 1)) H := by
  rw [before_succ]; exact (pointsTo_union (before_disj n)).2

/-- One step takes `Inv g` to `Inv (g + 1)`. It waits exactly if a copy is in flight from its slot. -/
theorem step_ok (Q : PUnit → sProp 𝕄) (ut : Memref sig .tc .vmem S512x1024 .f32) (fu : Buf (Elt F) (ut.view.loc (c : Thread nD τ)))
    (i : grid1.Coords) (t : ℕ) (ht : t < 64) (a : Vec F S128x128 .f32) (b : Vec F S8x128 .f32) (w : Bool)
    (hw : w = decide (2 ≤ 64 * (i 0).val + t)) (z z' : FVec F S1024x128 .f32)
    (hz' : z' = next a b z ((ut.access (inRect t ht)).read (Elt F) fu))
    (hz : (piece outM i t ht).view.read (Elt F) H = z') (k : FVec F S1024x128 .f32 → Prog (Ops (F := F)) PUnit) :
    iprop(inputs c ut fu ∗ Inv c H (64 * (i 0).val + t))
      ⊢ iprop((iprop(inputs c ut fu ∗ Inv c H (64 * (i 0).val + t + 1)) -∗ runs c Q (k z'))
        -∗ runs c Q (step ut outM stageM cc1_scratch1 i a b w t ht z k)) := by
  have hu : (ut.access (inRect t ht)).set ⊆ ut.view.set := View.set_slice_subset _ _
  unfold step
  subst hz'
  generalize hg : 64 * (i 0).val + t = g at hw ⊢
  iintro ⟨Hu, HI⟩ Hk
  iapply (wp_load_rect Variants.none (c : Thread nD τ) none Set.univ hu) $$ Hu
  iintro Hu
  by_cases h2 : 2 ≤ g
  · obtain rfl : w = true := by rw [hw]; exact decide_eq_true h2
    dsimp only
    obtain ⟨n, rfl⟩ : ∃ n, g = n + 2 := ⟨g - 2, by omega⟩
    unfold Inv slotBefore
    rw [if_neg (by omega), if_neg (by omega), if_neg (by omega)]
    icases HI with ⟨Hb, Hf, Hs, Hs', HO⟩
    ihave Hf := (take_out c (n + 2)) $$ Hf
    icases Hf with ⟨Ha, Hf⟩
    iapply (wait_ok c H Q i t ht (n + 2) (by omega)) $$ [Hs HO]
    · isplitl [Hs]; · iexact Hs
      iexact HO
    iintro ⟨Hd, Hs, HO⟩
    iapply (send_ok c H Q i t ht (n + 2) hg _ hz) $$ [Hs Ha]
    · isplitl [Hs]; · iexact Hs
      iexact Ha
    iintro Hs
    iapply Hk
    isplitl [Hu]; · iexact Hu
    isplitl [Hb Hd]
    · iapply (put_back c H n)
      isplitl [Hb]; · iexact Hb
      iexact Hd
    isplitl [Hf]; · iexact Hf
    isplitl [Hs']; · iexact Hs'
    isplitl [Hs]; · iexact Hs
    iexact HO
  · obtain rfl : w = false := by rw [hw]; exact decide_eq_false h2
    dsimp only
    unfold Inv
    have e1 : g - 2 = 0 := by omega
    have e2 : g + 1 - 2 = 0 := by omega
    rw [e1, e2]
    have e3 : slotBefore c H g = free (F := F) c g := if_pos (by omega)
    have e4 : slotBefore c H (g + 1 + 1) = busy c H (g + 2) := if_neg (by omega)
    rw [e3, e4]
    icases HI with ⟨Hb, Hf, Hs, Hs', HO⟩
    ihave Hf := (take_out c g) $$ Hf
    icases Hf with ⟨Ha, Hf⟩
    iapply (send_ok c H Q i t ht g hg _ hz) $$ [Hs Ha]
    · isplitl [Hs]; · iexact Hs
      iexact Ha
    iintro Hs
    iapply Hk
    isplitl [Hu]; · iexact Hu
    isplitl [Hb]; · iexact Hb
    isplitl [Hf]; · iexact Hf
    isplitl [Hs']; · iexact Hs'
    isplitl [Hs]; · iexact Hs
    iexact HO

/-- `n` steps from step `t` of grid point `i` take `Inv` `n` steps on, the state following `Z`. -/
theorem steps_ok (Q : PUnit → sProp 𝕄) (ut : Memref sig .tc .vmem S512x1024 .f32) (fu : Buf (Elt F) (ut.view.loc (c : Thread nD τ)))
    (i : grid1.Coords) (a : Vec F S128x128 .f32) (b : Vec F S8x128 .f32) (w : Bool) (hw : w = decide ((i 0).val ≠ 0))
    (Z : ℕ → FVec F S1024x128 .f32)
    (hZ : ∀ t (ht : t < 64), Z (t + 1) = next a b (Z t) ((ut.access (inRect t ht)).read (Elt F) fu))
    (hH : ∀ t (ht : t < 64), (piece outM i t ht).view.read (Elt F) H = Z (t + 1))
    (k : FVec F S1024x128 .f32 → Prog (Ops (F := F)) PUnit) :
    ∀ (n t : ℕ) (h : t + n ≤ 64),
      iprop(inputs c ut fu ∗ Inv c H (64 * (i 0).val + t))
        ⊢ iprop((iprop(inputs c ut fu ∗ Inv c H (64 * (i 0).val + (t + n))) -∗ runs c Q (k (Z (t + n))))
          -∗ runs c Q (steps ut outM stageM cc1_scratch1 i a b w k n t h (Z t)))
  | 0, t, h => by
    unfold steps
    rw [Nat.add_zero]
    iintro HI Hk
    iapply Hk
    iexact HI
  | n + 1, t, h => by
    have ht : t < 64 := by omega
    have hw' : (w || decide (2 ≤ t)) = decide (2 ≤ 64 * (i 0).val + t) := by
      rw [hw, ← Bool.decide_or]
      exact decide_eq_decide.mpr (by omega)
    have ih := steps_ok Q ut fu i a b w hw Z hZ hH k n (t + 1) (by omega)
    have e : t + (n + 1) = t + 1 + n := by omega
    unfold steps
    rw [e]
    iintro HI Hk
    iapply (step_ok c H Q ut fu i t ht a b _ hw' (Z t) (Z (t + 1)) (hZ t ht) (hH t ht) _) $$ HI
    iintro HI
    iapply ih $$ HI
    iexact Hk

/-- What the core holds after the last copies: the whole result at `H`, the staging buffer at anything, both semaphores
    at zero. -/
def Done (H : OutBuf (F := F) c) : sProp 𝕄 :=
  iprop(outAt c Finset.univ H ∗ (∃ f, stageAt (F := F) c Finset.univ f) ∗ semVal ((c : Thread nD τ), semOf 0) 0
    ∗ semVal ((c : Thread nD τ), semOf 1) 0 ∗ ∃ W, owes (c : Thread nD τ) 0 W)

/-- The two slots at anything are the staging buffer at something. -/
theorem slots_join : (iprop(slotAny (F := F) c 0 ∗ slotAny (F := F) c 1) : sProp 𝕄) ⊢ iprop(∃ f, stageAt (F := F) c Finset.univ f) := by
  iintro ⟨⟨%f, H0⟩, ⟨%f', H1⟩⟩
  ihave H' := (pointsTo_join (ℓ := stageM.view.loc (c : Thread nD τ)) slots_disj) $$ [H0 H1]
  · isplitl [H0]; · iexact H0
    iexact H1
  iexists _
  rw [slots_all]
  iexact H'

/-- Before the first step: nothing written, both slots free. -/
theorem start_ok : (iprop((∃ f, outAt (F := F) c Finset.univ f) ∗ (∃ f, stageAt (F := F) c Finset.univ f) ∗ semVal ((c : Thread nD τ), semOf 0) 0
    ∗ semVal ((c : Thread nD τ), semOf 1) 0 ∗ ∃ W, owes (c : Thread nD τ) 0 W) : sProp 𝕄) ⊢ Inv c H 0 := by
  unfold Inv
  have e0 : slotBefore c H 0 = free (F := F) c 0 := if_pos (by omega)
  have e1 : slotBefore c H (0 + 1) = free (F := F) c 1 := if_pos (by omega)
  rw [e0, e1, from_zero, before_zero, ← slots_all]
  iintro ⟨Ho, ⟨%f, Hs⟩, H0, H1, HO⟩
  ihave Hs' := (pointsTo_union slots_disj).1 $$ Hs
  icases Hs' with ⟨Hs0, Hs1⟩
  isplitr
  · unfold outAt; rw [pointsTo_empty]; iempintro
  isplitl [Ho]; · iexact Ho
  isplitl [H0 Hs0]
  · isplitl [H0]; · iexact H0
    iexists _; iexact Hs0
  isplitl [H1 Hs1]
  · isplitl [H1]; · iexact H1
    iexists _; iexact Hs1
  iexact HO

/-- The two waits at the end: every element is at `H`, and nothing is in flight. -/
theorem drain_ok (Q : PUnit → sProp 𝕄) (i : grid1.Coords) (k : Prog (Ops (F := F)) PUnit) :
    Inv c H 128
      ⊢ iprop((Done c H -∗ runs c Q k)
        -∗ runs c Q (wait outM stageM cc1_scratch1 i 62 (by omega) (wait outM stageM cc1_scratch1 i 63 (by omega) k))) := by
  have s0 : slotSem cc1_scratch1 128 = slotSem cc1_scratch1 0 := slotSem_congr rfl
  have s1 : slotSem cc1_scratch1 129 = slotSem cc1_scratch1 1 := slotSem_congr rfl
  unfold Inv Done
  have e0 : slotBefore c H 128 = busy c H 128 := if_neg (by omega)
  have e1 : slotBefore c H (128 + 1) = busy c H 129 := if_neg (by omega)
  rw [e0, e1]
  iintro ⟨Hb, -, Hs, Hs', HO⟩ Hk
  iapply (wait_ok c H Q i 62 _ 128 rfl) $$ [Hs HO]
  · isplitl [Hs]; · iexact Hs
    iexact HO
  iintro ⟨Hd, ⟨Hv, Hf⟩, HO⟩
  iapply (wait_ok c H Q i 63 _ 129 rfl) $$ [Hs' HO]
  · isplitl [Hs']; · iexact Hs'
    iexact HO
  iintro ⟨Hd', ⟨Hv', Hf'⟩, HO⟩
  iapply Hk
  isplitl [Hb Hd Hd']
  · rw [← before_all]
    iapply (put_back c H 127)
    isplitl [Hb Hd]
    · iapply (put_back c H 126)
      isplitl [Hb]; · iexact Hb
      iexact Hd
    iexact Hd'
  isplitl [Hf Hf']
  · iapply (slots_join c)
    isplitl [Hf]; · iexact Hf
    iexact Hf'
  isplitl [Hv]; · unfold semOf; rw [← s0]; iexact Hv
  isplitl [Hv']; · unfold semOf; rw [← s1]; iexact Hv'
  iexact HO

end Cert.KernelIdeal.Koop

end
-- ==== Proof.Region0.lean ====
/-
  The first call, at one grid point: its body leaves every input block as it was and the output block at the lift's value
  of the input blocks (`body_ok`). The arrays are as `W` has them when the call is entered.
-/
module

public import proofs.«01_k».proof.Proof.Gen.KernelIdeal.Launch
public import proofs.«01_k».proof.Proof.Copies
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Lift

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Koop (UU)

variable {F : FTy → Type} [FloatOps F]

local notation "𝕄" => MT nD τ sig Unit (Elt F) ℕ UU ℕ

theorem hz : (![0, 0] : Fin 2 → Nat) = fun _ => 0 := funext fun a => by fin_cases a <;> rfl

set_option maxHeartbeats 1000000 in
/-- The body on whole buffers: the inputs are read whole and kept, and the output is overwritten whole. -/
theorem kernel_ok (c : Dev nD) (i : grid0.Coords)
    (x : Memref sig .tc .vmem S4096x32 .f32) (hx) (w1 : Memref sig .tc .vmem S32x512 .f32) (hw1) (b1 : Memref sig .tc .vmem S1x512 .f32) (hb1)
    (w2 : Memref sig .tc .vmem S512x512 .f32) (hw2) (b2 : Memref sig .tc .vmem S1x512 .f32) (hb2) (w3 : Memref sig .tc .vmem S512x512 .f32) (hw3)
    (b3 : Memref sig .tc .vmem S1x512 .f32) (hb3) (wo : Memref sig .tc .vmem S512x96 .f32) (hwo) (bo : Memref sig .tc .vmem S1x96 .f32) (hbo)
    (out : Memref sig .tc .vmem S4096x128 .f32) (hout)
    (vx : Vec F S4096x32 .f32) (v1 : Vec F S32x512 .f32) (u1 : Vec F S1x512 .f32) (v2 : Vec F S512x512 .f32) (u2 : Vec F S1x512 .f32)
    (v3 : Vec F S512x512 .f32) (u3 : Vec F S1x512 .f32) (vo : Vec F S512x96 .f32) (uo : Vec F S1x96 .f32) (K : PUnit → sProp 𝕄) :
    iprop(owns (c : Thread nD τ) x fullShare vx ∗ owns (c : Thread nD τ) w1 fullShare v1 ∗ owns (c : Thread nD τ) b1 fullShare u1
        ∗ owns (c : Thread nD τ) w2 fullShare v2 ∗ owns (c : Thread nD τ) b2 fullShare u2 ∗ owns (c : Thread nD τ) w3 fullShare v3
        ∗ owns (c : Thread nD τ) b3 fullShare u3 ∗ owns (c : Thread nD τ) wo fullShare vo ∗ owns (c : Thread nD τ) bo fullShare uo
        ∗ (∃ d, owns (c : Thread nD τ) out fullShare d)
        ∗ (iprop(owns (c : Thread nD τ) x fullShare vx ∗ owns (c : Thread nD τ) w1 fullShare v1 ∗ owns (c : Thread nD τ) b1 fullShare u1
            ∗ owns (c : Thread nD τ) w2 fullShare v2 ∗ owns (c : Thread nD τ) b2 fullShare u2 ∗ owns (c : Thread nD τ) w3 fullShare v3
            ∗ owns (c : Thread nD τ) b3 fullShare u3 ∗ owns (c : Thread nD τ) wo fullShare vo ∗ owns (c : Thread nD τ) bo fullShare uo
            ∗ owns (c : Thread nD τ) out fullShare (k0_pay1 vx v1 u1 v2 u2 v3 u3 vo uo)) -∗ K ⟨⟩))
      ⊢ wp frame (wpE (defs₀ (F := F)) Variants.none c none) Set.univ
          (cc0_mlp_lift i x hx w1 hw1 b1 hb1 w2 hw2 b2 hb2 w3 hw3 b3 hb3 wo hwo bo hbo out hout) K := by
  simp only [cc0_mlp_lift_eq_skeleton]; unfold cc0_mlp_lift_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%d9, %f9, -, H9⟩, Hk⟩
  subst e0 e1 e2 e3 e4 e5 e6 e7 e8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  refine (View.read_writes_eq_canon _ _ _ (fun y => View.cover_of_tiled _ S4096x128.size (by rfl) y)).trans ?_
  refine (View.canon_unit_zero (S := S4096x128) hz _ _).trans ?_
  have l0 : View.ld (x.view.read (Elt F) f0) (Rect.unit (s := S4096x32) ![0, 0] S4096x32.size inb_S4096x32_S4096x32_0_0) = _ := View.ld_unit_zero (S := S4096x32) hz _ _
  have l1 : View.ld (w1.view.read (Elt F) f1) (Rect.unit (s := S32x512) ![0, 0] S32x512.size inb_S32x512_S32x512_0_0) = _ := View.ld_unit_zero (S := S32x512) hz _ _
  have l2 : View.ld (b1.view.read (Elt F) f2) (Rect.unit (s := S1x512) ![0, 0] S1x512.size inb_S1x512_S1x512_0_0) = _ := View.ld_unit_zero (S := S1x512) hz _ _
  have l3 : View.ld (w2.view.read (Elt F) f3) (Rect.unit (s := S512x512) ![0, 0] S512x512.size inb_S512x512_S512x512_0_0) = _ := View.ld_unit_zero (S := S512x512) hz _ _
  have l4 : View.ld (b2.view.read (Elt F) f4) (Rect.unit (s := S1x512) ![0, 0] S1x512.size inb_S1x512_S1x512_0_0) = _ := View.ld_unit_zero (S := S1x512) hz _ _
  have l5 : View.ld (w3.view.read (Elt F) f5) (Rect.unit (s := S512x512) ![0, 0] S512x512.size inb_S512x512_S512x512_0_0) = _ := View.ld_unit_zero (S := S512x512) hz _ _
  have l6 : View.ld (b3.view.read (Elt F) f6) (Rect.unit (s := S1x512) ![0, 0] S1x512.size inb_S1x512_S1x512_0_0) = _ := View.ld_unit_zero (S := S1x512) hz _ _
  have l7 : View.ld (wo.view.read (Elt F) f7) (Rect.unit (s := S512x96) ![0, 0] S512x96.size inb_S512x96_S512x96_0_0) = _ := View.ld_unit_zero (S := S512x96) hz _ _
  have l8 : View.ld (bo.view.read (Elt F) f8) (Rect.unit (s := S1x96) ![0, 0] S1x96.size inb_S1x96_S1x96_0_0) = _ := View.ld_unit_zero (S := S1x96) hz _ _
  exact congr (congr (congr (congr (congr (congr (congr (congr (congrArg k0_pay1 l0) l1) l2) l3) l4) l5) l6) l7) l8

variable (W : Dev nD → Valuation τ sig (Elt F))

/-- Window `w`'s block at point `t`, of its array as the call finds it. -/
def block (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The output block at point `t`: the lift's value of the input blocks. -/
abbrev made (c : Dev nD) (t : Fin cfg0.N) : Vec F S4096x128 .f32 :=
  k0_pay1 (block W c 0 t) (block W c 1 t) (block W c 2 t) (block W c 3 t) (block W c 4 t) (block W c 5 t) (block W c 6 t) (block W c 7 t) (block W c 8 t)

/-- What the call's windows hold after the body at each point; nothing is owed, and the body keeps nothing of its own. -/
def dat (c : Dev nD) : Dat τ (Elt F) Unit ℕ UU ℕ cfg0 c where
  A w := W c (Proc.devRef .tc (Pipeline.arrRef spec0 w))
  after w t := match w with
    | ⟨9, _⟩ => made W c t
    | ⟨0, _⟩ => block W c 0 t
    | ⟨1, _⟩ => block W c 1 t
    | ⟨2, _⟩ => block W c 2 t
    | ⟨3, _⟩ => block W c 3 t
    | ⟨4, _⟩ => block W c 4 t
    | ⟨5, _⟩ => block W c 5 t
    | ⟨6, _⟩ => block W c 6 t
    | ⟨7, _⟩ => block W c 7 t
    | ⟨8, _⟩ => block W c 8 t
  Φ _ := Pipeline.scopedRest spec0 c
  q _ := fullShare
  owed _ := 0

/-- Every input's buffer holds its block when the body is entered. -/
theorem staged (c : Dev nD) (t : Fin cfg0.N) :
    (∀ d, (dat W c).before 0 t d = block W c 0 t) ∧ (∀ d, (dat W c).before 1 t d = block W c 1 t) ∧ (∀ d, (dat W c).before 2 t d = block W c 2 t)
    ∧ (∀ d, (dat W c).before 3 t d = block W c 3 t) ∧ (∀ d, (dat W c).before 4 t d = block W c 4 t) ∧ (∀ d, (dat W c).before 5 t d = block W c 5 t)
    ∧ (∀ d, (dat W c).before 6 t d = block W c 6 t) ∧ (∀ d, (dat W c).before 7 t d = block W c 7 t) ∧ (∀ d, (dat W c).before 8 t d = block W c 8 t) := by
  refine ⟨?_, ?_, ?_, ?_, ?_, ?_, ?_, ?_, ?_⟩ <;> intro d <;>
    exact (Dat.before_in_eq_fetched _ _ rfl (fun _ => rfl) (fun _ _ _ => rfl) (fun t => rfl) t d).trans rfl

set_option maxHeartbeats 1000000 in
/-- The body at any point. -/
theorem body_ok (c : Dev nD) : BodyObligation (dat W c) (defs₀ (F := F)) Variants.none () Set.univ := fun t => by
  obtain ⟨s0, s1, s2, s3, s4, s5, s6, s7, s8⟩ := staged W c t
  rw [bigSep_W0, bigSep_W0, show (dat W c).Φ t.succ = (dat W c).Φ t.castSucc from rfl,
    show (dat W c).owesAt () t.succ = (dat W c).owesAt () t.castSucc from rfl]
  simp only [s0, s1, s2, s3, s4, s5, s6, s7, s8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel_ok c (grid0.coords t) _ _ _ _ _ _ _ _ _ _ _ _ _ _ _ _ _ _ _ _ (block W c 0 t) (block W c 1 t) (block W c 2 t) (block W c 3 t)
    (block W c 4 t) (block W c 5 t) (block W c 6 t) (block W c 7 t) (block W c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Lift

end
-- ==== Proof.Region1.lean ====
/-
  The second call, at one grid point. A grid point has 1024 of the 2048 states; its body lifts their rows and takes 64
  steps, sending the state off after each. `state W c t k` is the state of grid point `t` after `k` steps, and `result W c`
  is the array that holds them all. `body_ok` is the body at any grid point: the copies in flight pass from the first
  grid point to the second.
-/
module

public import proofs.«01_k».proof.Proof.Gen.KernelIdeal.Launch
public import proofs.«01_k».proof.Proof.Copies
public import Idealize.ShloMosaic.Lib.Pipeline.FrameBody
public import Idealize.ShloMosaic.Lib.Pipeline.Value

@[expose] public section

set_option maxRecDepth 16384

noncomputable section

namespace Cert.KernelIdeal.Koop

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The invariant without what the core owes -/

/-- `Inv` without what the core owes. -/
def Ring (c : Dev nD) (H : OutBuf (F := F) c) (g : ℕ) : sProp 𝕄 :=
  iprop(outAt c (before (g - 2)) H ∗ (∃ f, outAt c (from_ g) f) ∗ slotBefore c H g ∗ slotBefore c H (g + 1))

/-- `Done` without what the core owes. -/
def Rest (c : Dev nD) (H : OutBuf (F := F) c) : sProp 𝕄 :=
  iprop(outAt c Finset.univ H ∗ (∃ f, stageAt (F := F) c Finset.univ f) ∗ semVal ((c : Thread nD τ), semOf 0) 0 ∗ semVal ((c : Thread nD τ), semOf 1) 0)

theorem ring_in (c : Dev nD) (H : OutBuf (F := F) c) (g : ℕ) :
    (iprop(Ring c H g ∗ ∃ W, owes (c : Thread nD τ) 0 W) : sProp 𝕄) ⊢ Inv c H g := by
  unfold Ring Inv
  iintro ⟨⟨H1, H2, H3, H4⟩, H5⟩
  isplitl [H1]; · iexact H1
  isplitl [H2]; · iexact H2
  isplitl [H3]; · iexact H3
  isplitl [H4]; · iexact H4
  iexact H5

theorem ring_out (c : Dev nD) (H : OutBuf (F := F) c) (g : ℕ) :
    Inv c H g ⊢ (iprop(Ring c H g ∗ ∃ W, owes (c : Thread nD τ) 0 W) : sProp 𝕄) := by
  unfold Ring Inv
  iintro ⟨H1, H2, H3, H4, H5⟩
  isplitr [H5]
  · isplitl [H1]; · iexact H1
    isplitl [H2]; · iexact H2
    isplitl [H3]; · iexact H3
    iexact H4
  iexact H5

theorem rest_out (c : Dev nD) (H : OutBuf (F := F) c) :
    Done c H ⊢ (iprop(Rest c H ∗ ∃ W, owes (c : Thread nD τ) 0 W) : sProp 𝕄) := by
  unfold Done Rest
  iintro ⟨H1, H2, H3, H4, H5⟩
  isplitr [H5]
  · isplitl [H1]; · iexact H1
    isplitl [H2]; · iexact H2
    isplitl [H3]; · iexact H3
    iexact H4
  iexact H5

/-- Before the first step nothing is written, and both slots are free. -/
theorem ring_start (c : Dev nD) (H : OutBuf (F := F) c) :
    (iprop((∃ f, outAt (F := F) c Finset.univ f) ∗ (∃ f, stageAt (F := F) c Finset.univ f) ∗ semVal ((c : Thread nD τ), semOf 0) 0
      ∗ semVal ((c : Thread nD τ), semOf 1) 0) : sProp 𝕄) ⊢ Ring c H 0 := by
  unfold Ring
  have e0 : slotBefore c H 0 = free (F := F) c 0 := if_pos (by omega)
  have e1 : slotBefore c H (0 + 1) = free (F := F) c 1 := if_pos (by omega)
  rw [e0, e1, from_zero, before_zero, ← slots_all]
  iintro ⟨Ho, ⟨%f, Hs⟩, H0, H1⟩
  ihave Hs' := (pointsTo_union slots_disj).1 $$ Hs
  icases Hs' with ⟨Hs0, Hs1⟩
  isplitr
  · unfold outAt; rw [pointsTo_empty]; iempintro
  isplitl [Ho]; · iexact Ho
  isplitl [H0 Hs0]
  · isplitl [H0]; · iexact H0
    iexists _; iexact Hs0
  isplitl [H1]; · iexact H1
  iexists _; iexact Hs1

/-! ## The body on whole buffers -/

/-- A whole buffer, loaded whole, is read and kept. -/
theorem load_ok (c : Dev nD) (Q : PUnit → sProp 𝕄) {S : Shape} (m : Memref sig .tc .vmem S .f32) (o : Fin S.rank → ℕ) (ho : o = fun _ => 0)
    (inb : ∀ a, o a + S.size a ≤ S.size a) (hl : m.view.LoadsAt (Rect.unit (s := S) o S.size inb).toLoadRect) (v : S.Idx → Elt F .f32)
    (k : (S.Idx → Elt F .f32) → Prog (Ops (F := F)) PUnit) :
    (owns (c : Thread nD τ) m fullShare v : sProp 𝕄)
      ⊢ iprop((owns (c : Thread nD τ) m fullShare v -∗ runs (F := F) c Q (k v))
        -∗ runs (F := F) c Q (.op (.load m (Rect.unit (s := S) o S.size inb).toLoadRect hl) k)) := by
  unfold owns
  have hs : (m.access (Rect.unit (s := S) o S.size inb)).set ⊆ m.view.set := View.set_slice_subset _ _
  iintro ⟨%f, %hf, Hm⟩ Hk
  iapply (wp_load_rect Variants.none (c : Thread nD τ) none Set.univ hs) $$ Hm
  iintro Hm
  have e : (m.access (Rect.unit (s := S) o S.size inb)).read (Elt F) f = v := (View.ld_unit_zero ho inb (m.view.read (Elt F) f)).trans hf
  rw [e]
  iapply Hk
  iexists f; isplitr; · ipureintro; exact hf
  iexact Hm

theorem hz2 : (![0, 0] : Fin 2 → Nat) = fun _ => 0 := funext fun a => by fin_cases a <;> rfl

/-- The state after `k` steps from `z`, with the inputs `u`. -/
def iter (a : Vec F S128x128 .f32) (b : Vec F S8x128 .f32) (u : Vec F S512x1024 .f32) (z : FVec F S1024x128 .f32) : ℕ → FVec F S1024x128 .f32
  | 0 => z
  | k + 1 => if h : k < 64 then next a b (iter a b u z k) (View.ld u (inRect k h)) else iter a b u z k

/-- The body's eleven loads, and then `k` of what they read. -/
def loads (x : Memref sig .tc .vmem S1024x32 .f32)
    (w1 : Memref sig .tc .vmem S32x512 .f32) (b1 : Memref sig .tc .vmem S1x512 .f32) (w2 : Memref sig .tc .vmem S512x512 .f32)
    (b2 : Memref sig .tc .vmem S1x512 .f32) (w3 : Memref sig .tc .vmem S512x512 .f32) (b3 : Memref sig .tc .vmem S1x512 .f32)
    (wo : Memref sig .tc .vmem S512x96 .f32) (bo : Memref sig .tc .vmem S1x96 .f32) (a : Memref sig .tc .vmem S128x128 .f32)
    (b : Memref sig .tc .vmem S8x128 .f32)
    (k : Vec F S1024x32 .f32 → Vec F S32x512 .f32 → Vec F S1x512 .f32 → Vec F S512x512 .f32 → Vec F S1x512 .f32 → Vec F S512x512 .f32
      → Vec F S1x512 .f32 → Vec F S512x96 .f32 → Vec F S1x96 .f32 → Vec F S128x128 .f32 → Vec F S8x128 .f32 → Prog (Ops (F := F)) PUnit) : Prog (Ops (F := F)) PUnit :=
  .op (.load x (Rect.unit (s := S1024x32) ![0, 0] S1024x32.size inb_S1024x32_S1024x32_0_0).toLoadRect (View.loadsAt_vmem h_S1024x32)) fun vx =>
  .op (.load w1 (Rect.unit (s := S32x512) ![0, 0] S32x512.size inb_S32x512_S32x512_0_0).toLoadRect (View.loadsAt_vmem h_S32x512)) fun v1 =>
  .op (.load b1 (Rect.unit (s := S1x512) ![0, 0] S1x512.size inb_S1x512_S1x512_0_0).toLoadRect (View.loadsAt_vmem h_S1x512)) fun u1 =>
  .op (.load w2 (Rect.unit (s := S512x512) ![0, 0] S512x512.size inb_S512x512_S512x512_0_0).toLoadRect (View.loadsAt_vmem h_S512x512)) fun v2 =>
  .op (.load b2 (Rect.unit (s := S1x512) ![0, 0] S1x512.size inb_S1x512_S1x512_0_0).toLoadRect (View.loadsAt_vmem h_S1x512)) fun u2 =>
  .op (.load w3 (Rect.unit (s := S512x512) ![0, 0] S512x512.size inb_S512x512_S512x512_0_0).toLoadRect (View.loadsAt_vmem h_S512x512)) fun v3 =>
  .op (.load b3 (Rect.unit (s := S1x512) ![0, 0] S1x512.size inb_S1x512_S1x512_0_0).toLoadRect (View.loadsAt_vmem h_S1x512)) fun u3 =>
  .op (.load wo (Rect.unit (s := S512x96) ![0, 0] S512x96.size inb_S512x96_S512x96_0_0).toLoadRect (View.loadsAt_vmem h_S512x96)) fun vo =>
  .op (.load bo (Rect.unit (s := S1x96) ![0, 0] S1x96.size inb_S1x96_S1x96_0_0).toLoadRect (View.loadsAt_vmem h_S1x96)) fun uo =>
  .op (.load a (Rect.unit (s := S128x128) ![0, 0] S128x128.size inb_S128x128_S128x128_0_0).toLoadRect (View.loadsAt_vmem h_S128x128)) fun va =>
  .op (.load b (Rect.unit (s := S8x128) ![0, 0] S8x128.size inb_S8x128_S8x128_0_0).toLoadRect (View.loadsAt_vmem h_S8x128)) fun vb =>
  k vx v1 u1 v2 u2 v3 u3 vo uo va vb

/-- The eleven buffers that are loaded whole, held. -/
def read (c : Dev nD) (x : Memref sig .tc .vmem S1024x32 .f32)
    (w1 : Memref sig .tc .vmem S32x512 .f32) (b1 : Memref sig .tc .vmem S1x512 .f32) (w2 : Memref sig .tc .vmem S512x512 .f32)
    (b2 : Memref sig .tc .vmem S1x512 .f32) (w3 : Memref sig .tc .vmem S512x512 .f32) (b3 : Memref sig .tc .vmem S1x512 .f32)
    (wo : Memref sig .tc .vmem S512x96 .f32) (bo : Memref sig .tc .vmem S1x96 .f32) (a : Memref sig .tc .vmem S128x128 .f32)
    (b : Memref sig .tc .vmem S8x128 .f32)
    (vx : Vec F S1024x32 .f32) (v1 : Vec F S32x512 .f32) (u1 : Vec F S1x512 .f32) (v2 : Vec F S512x512 .f32) (u2 : Vec F S1x512 .f32)
    (v3 : Vec F S512x512 .f32) (u3 : Vec F S1x512 .f32) (vo : Vec F S512x96 .f32) (uo : Vec F S1x96 .f32) (va : Vec F S128x128 .f32) (vb : Vec F S8x128 .f32) : sProp 𝕄 :=
  iprop(owns (c : Thread nD τ) x fullShare vx ∗ owns (c : Thread nD τ) w1 fullShare v1 ∗ owns (c : Thread nD τ) b1 fullShare u1
      ∗ owns (c : Thread nD τ) w2 fullShare v2 ∗ owns (c : Thread nD τ) b2 fullShare u2 ∗ owns (c : Thread nD τ) w3 fullShare v3
      ∗ owns (c : Thread nD τ) b3 fullShare u3 ∗ owns (c : Thread nD τ) wo fullShare vo ∗ owns (c : Thread nD τ) bo fullShare uo
      ∗ owns (c : Thread nD τ) a fullShare va ∗ owns (c : Thread nD τ) b fullShare vb)

/-- The loads read and keep the eleven buffers. -/
theorem loads_ok (c : Dev nD) (Q : PUnit → sProp 𝕄) (x : Memref sig .tc .vmem S1024x32 .f32)
    (w1 : Memref sig .tc .vmem S32x512 .f32) (b1 : Memref sig .tc .vmem S1x512 .f32) (w2 : Memref sig .tc .vmem S512x512 .f32)
    (b2 : Memref sig .tc .vmem S1x512 .f32) (w3 : Memref sig .tc .vmem S512x512 .f32) (b3 : Memref sig .tc .vmem S1x512 .f32)
    (wo : Memref sig .tc .vmem S512x96 .f32) (bo : Memref sig .tc .vmem S1x96 .f32) (a : Memref sig .tc .vmem S128x128 .f32)
    (b : Memref sig .tc .vmem S8x128 .f32)
    (vx : Vec F S1024x32 .f32) (v1 : Vec F S32x512 .f32) (u1 : Vec F S1x512 .f32) (v2 : Vec F S512x512 .f32) (u2 : Vec F S1x512 .f32)
    (v3 : Vec F S512x512 .f32) (u3 : Vec F S1x512 .f32) (vo : Vec F S512x96 .f32) (uo : Vec F S1x96 .f32) (va : Vec F S128x128 .f32) (vb : Vec F S8x128 .f32)
    (k : Vec F S1024x32 .f32 → Vec F S32x512 .f32 → Vec F S1x512 .f32 → Vec F S512x512 .f32 → Vec F S1x512 .f32 → Vec F S512x512 .f32
      → Vec F S1x512 .f32 → Vec F S512x96 .f32 → Vec F S1x96 .f32 → Vec F S128x128 .f32 → Vec F S8x128 .f32 → Prog (Ops (F := F)) PUnit) :
    read c x w1 b1 w2 b2 w3 b3 wo bo a b vx v1 u1 v2 u2 v3 u3 vo uo va vb
      ⊢ iprop((read c x w1 b1 w2 b2 w3 b3 wo bo a b vx v1 u1 v2 u2 v3 u3 vo uo va vb -∗ runs (F := F) c Q (k vx v1 u1 v2 u2 v3 u3 vo uo va vb)) -∗ runs (F := F) c Q (loads x w1 b1 w2 b2 w3 b3 wo bo a b k)) := by
  unfold loads read
  iintro ⟨H0, H1, H2, H3, H4, H5, H6, H7, H8, H9, H10⟩ Hk
  iapply (load_ok c Q x ![0, 0] hz2 inb_S1024x32_S1024x32_0_0 (View.loadsAt_vmem h_S1024x32) vx _) $$ H0
  iintro H0
  iapply (load_ok c Q w1 ![0, 0] hz2 inb_S32x512_S32x512_0_0 (View.loadsAt_vmem h_S32x512) v1 _) $$ H1
  iintro H1
  iapply (load_ok c Q b1 ![0, 0] hz2 inb_S1x512_S1x512_0_0 (View.loadsAt_vmem h_S1x512) u1 _) $$ H2
  iintro H2
  iapply (load_ok c Q w2 ![0, 0] hz2 inb_S512x512_S512x512_0_0 (View.loadsAt_vmem h_S512x512) v2 _) $$ H3
  iintro H3
  iapply (load_ok c Q b2 ![0, 0] hz2 inb_S1x512_S1x512_0_0 (View.loadsAt_vmem h_S1x512) u2 _) $$ H4
  iintro H4
  iapply (load_ok c Q w3 ![0, 0] hz2 inb_S512x512_S512x512_0_0 (View.loadsAt_vmem h_S512x512) v3 _) $$ H5
  iintro H5
  iapply (load_ok c Q b3 ![0, 0] hz2 inb_S1x512_S1x512_0_0 (View.loadsAt_vmem h_S1x512) u3 _) $$ H6
  iintro H6
  iapply (load_ok c Q wo ![0, 0] hz2 inb_S512x96_S512x96_0_0 (View.loadsAt_vmem h_S512x96) vo _) $$ H7
  iintro H7
  iapply (load_ok c Q bo ![0, 0] hz2 inb_S1x96_S1x96_0_0 (View.loadsAt_vmem h_S1x96) uo _) $$ H8
  iintro H8
  iapply (load_ok c Q a ![0, 0] hz2 inb_S128x128_S128x128_0_0 (View.loadsAt_vmem h_S128x128) va _) $$ H9
  iintro H9
  iapply (load_ok c Q b ![0, 0] hz2 inb_S8x128_S8x128_0_0 (View.loadsAt_vmem h_S8x128) vb _) $$ H10
  iintro H10
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What follows the 64 steps: nothing, or the wait for the last two copies. -/
def ending (i : grid1.Coords) : Bool → Prog (Ops (F := F)) PUnit
  | true => wait outM stageM cc1_scratch1 i 62 (by omega) (wait outM stageM cc1_scratch1 i 63 (by omega) (.ret ⟨⟩))
  | false => .ret ⟨⟩

/-- The body is its loads, the steps from the lift of the states, and the ending. -/
theorem body_eq (i : grid1.Coords) (ut : Memref sig .tc .vmem S512x1024 .f32) (x : Memref sig .tc .vmem S1024x32 .f32)
    (w1 : Memref sig .tc .vmem S32x512 .f32) (b1 : Memref sig .tc .vmem S1x512 .f32) (w2 : Memref sig .tc .vmem S512x512 .f32)
    (b2 : Memref sig .tc .vmem S1x512 .f32) (w3 : Memref sig .tc .vmem S512x512 .f32) (b3 : Memref sig .tc .vmem S1x512 .f32)
    (wo : Memref sig .tc .vmem S512x96 .f32) (bo : Memref sig .tc .vmem S1x96 .f32) (a : Memref sig .tc .vmem S128x128 .f32)
    (b : Memref sig .tc .vmem S8x128 .f32) (w d : Bool) :
    body (F := F) i x ut w1 b1 w2 b2 w3 b3 wo bo a b outM stageM cc1_scratch1 w d
      = loads x w1 b1 w2 b2 w3 b3 wo bo a b fun vx v1 u1 v2 u2 v3 u3 vo uo va vb =>
          steps ut outM stageM cc1_scratch1 i va vb w (fun _ => ending i d) 64 0 (by omega) (k1_pay2 vx v1 u1 v2 u2 v3 u3 vo uo) := by
  cases d <;> rfl

attribute [local irreducible] steps

/-- The body at grid point `i`, up to its ending. -/
theorem body_steps (c : Dev nD) (H : OutBuf (F := F) c) (Q : PUnit → sProp 𝕄) (i : grid1.Coords) (ut : Memref sig .tc .vmem S512x1024 .f32) (x : Memref sig .tc .vmem S1024x32 .f32)
    (w1 : Memref sig .tc .vmem S32x512 .f32) (b1 : Memref sig .tc .vmem S1x512 .f32) (w2 : Memref sig .tc .vmem S512x512 .f32)
    (b2 : Memref sig .tc .vmem S1x512 .f32) (w3 : Memref sig .tc .vmem S512x512 .f32) (b3 : Memref sig .tc .vmem S1x512 .f32)
    (wo : Memref sig .tc .vmem S512x96 .f32) (bo : Memref sig .tc .vmem S1x96 .f32) (a : Memref sig .tc .vmem S128x128 .f32)
    (b : Memref sig .tc .vmem S8x128 .f32)
    (w d : Bool) (hw : w = decide ((i 0).val ≠ 0)) (vu : Vec F S512x1024 .f32) (vx : Vec F S1024x32 .f32) (v1 : Vec F S32x512 .f32) (u1 : Vec F S1x512 .f32) (v2 : Vec F S512x512 .f32) (u2 : Vec F S1x512 .f32)
    (v3 : Vec F S512x512 .f32) (u3 : Vec F S1x512 .f32) (vo : Vec F S512x96 .f32) (uo : Vec F S1x96 .f32) (va : Vec F S128x128 .f32) (vb : Vec F S8x128 .f32)
    (hH : ∀ k (hk : k < 64), (piece outM i k hk).view.read (Elt F) H = iter va vb vu (k1_pay2 vx v1 u1 v2 u2 v3 u3 vo uo) (k + 1)) :
    iprop(read c x w1 b1 w2 b2 w3 b3 wo bo a b vx v1 u1 v2 u2 v3 u3 vo uo va vb
        ∗ owns (c : Thread nD τ) ut fullShare vu ∗ Inv c H (64 * (i 0).val))
      ⊢ iprop((iprop(read c x w1 b1 w2 b2 w3 b3 wo bo a b vx v1 u1 v2 u2 v3 u3 vo uo va vb
            ∗ owns (c : Thread nD τ) ut fullShare vu ∗ Inv c H (64 * (i 0).val + 64)) -∗ runs (F := F) c Q (ending i d))
        -∗ runs (F := F) c Q (body i x ut w1 b1 w2 b2 w3 b3 wo bo a b outM stageM cc1_scratch1 w d)) := by
  rw [body_eq]
  generalize hz : k1_pay2 vx v1 u1 v2 u2 v3 u3 vo uo = z at hH
  have e0 : iter va vb vu z 0 = z := rfl
  iintro ⟨Hr, Hu, HI⟩ Hk
  iapply (loads_ok c Q x w1 b1 w2 b2 w3 b3 wo bo a b vx v1 u1 v2 u2 v3 u3 vo uo va vb _) $$ Hr
  iintro Hr
  ihave Hu := (show (owns (c : Thread nD τ) ut fullShare vu : sProp 𝕄)
    ⊢ iprop(∃ f, ⌜ut.view.read (Elt F) f = vu⌝ ∗ (ut.view.loc (c : Thread nD τ) ↦[ut.view.set]{fullShare} f)) from .rfl) $$ Hu
  icases Hu with ⟨%fu, %hu, Hu⟩
  have hs := steps_ok c H Q ut fu i va vb w hw (iter va vb vu z)
    (fun t ht => by subst hu; exact dif_pos ht) hH (fun _ => ending i d) 64 0 (by omega)
  rw [Nat.add_zero, e0] at hs
  subst hz
  iapply hs $$ [Hu HI]
  · isplitl [Hu]; · iexact Hu
    iexact HI
  iintro ⟨Hu, HI⟩
  iapply Hk
  isplitl [Hr]; · iexact Hr
  isplitl [Hu]
  · unfold owns; iexists fu; isplitr; · ipureintro; exact hu
    iexact Hu
  iexact HI

end Cert.KernelIdeal.Koop

end
-- ==== Proof.Call1.lean ====
/-
  The second call's contents and invariant. Grid point `t` has rows `1024 t … 1024 t + 1023`. `state W c t k` is the state
  of those rows after `k` steps, and `result W c` is the array that holds every state: row `n` after step `k` at `(n, k, ·)`.
  `body_ok` is the body at either grid point: the copies that the first leaves in flight pass to the second, which waits
  for its own last two.
-/
module

public import proofs.«01_k».proof.Proof.Region1

@[expose] public section

set_option maxRecDepth 16384

noncomputable section

namespace Cert.KernelIdeal.Koop

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (W : Dev nD → Valuation τ sig (Elt F))

/-- Window `w`'s block at point `t`, of its array as the call finds it. -/
def block (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The lift of point `t`'s states. -/
def first (c : Dev nD) (t : Fin cfg1.N) : Vec F S1024x128 .f32 :=
  k1_pay2 (block W c 0 t) (block W c 2 t) (block W c 3 t) (block W c 4 t) (block W c 5 t) (block W c 6 t) (block W c 7 t) (block W c 8 t) (block W c 9 t)

/-- Point `t`'s states after `k` steps. -/
def state (c : Dev nD) (t : Fin cfg1.N) (k : ℕ) : Vec F S1024x128 .f32 :=
  iter (block W c 10 t) (block W c 11 t) (block W c 1 t) (first W c t) k

/-- The grid point that has row `n`. -/
def ptOf (n : Fin 2048) : Fin cfg1.N := ⟨n.val / 1024, by have := n.isLt; show n.val / 1024 < grid1.N; rw [N_1]; omega⟩

/-- Row `n`'s place among its grid point's rows. -/
def rowIn (n : Fin 2048) : Fin 1024 := ⟨n.val % 1024, Nat.mod_lt _ (by omega)⟩

/-- The array of every state. -/
def result (c : Dev nD) : OutBuf (F := F) c := fun (j : S2048x64x128.Idx) =>
  state W c (ptOf (j 0)) ((j 1).val + 1) (ix2 (rowIn (j 0)) (j 2) : S1024x128.Idx)

theorem result_at (c : Dev nD) (t : Fin cfg1.N) (k : ℕ) (x : S1024x128.Idx) (j : S2048x64x128.Idx)
    (h0 : (j 0).val = 1024 * t.val + (x 0).val) (h1 : (j 1).val = k) (h2 : (j 2).val = (x 1).val) :
    result W c j = state W c t (k + 1) x := by
  have hx : (x 0).val < 1024 := (x 0).isLt
  have e0 : ptOf (j 0) = t := Fin.ext (by show (j 0).val / 1024 = t.val; omega)
  have e1 : (ix2 (rowIn (j 0)) (j 2) : S1024x128.Idx) = x := by
    funext a
    match a with
    | ⟨0, _⟩ => exact Fin.ext (by show (j 0).val % 1024 = (x 0).val; omega)
    | ⟨1, _⟩ => exact Fin.ext h2
  show state W c (ptOf (j 0)) ((j 1).val + 1) (ix2 (rowIn (j 0)) (j 2) : S1024x128.Idx) = _
  rw [e0, e1, h1]

/-- The grid coordinate of point `t` is `t`. -/
theorem coord (t : Fin cfg1.N) : ((grid1.coords t) 0).val = t.val := by
  rcases fin_N1 t with rfl | rfl <;> rfl

/-- What step `k` of point `t` writes is the state after that step. -/
theorem piece_result (c : Dev nD) (t : Fin cfg1.N) (k : ℕ) (hk : k < 64) :
    (piece outM (grid1.coords t) k hk).view.read (Elt F) (result W c)
      = iter (block W c 10 t) (block W c 11 t) (block W c 1 t) (first W c t) (k + 1) := by
  funext x
  obtain ⟨h0, h1, h2⟩ := piece_emb (grid1.coords t) k hk x
  rw [coord t] at h0
  exact result_at W c t k x _ h0 h1 h2

/-- What the body holds of its own before point 0, before point 1 and at the end. -/
def held (c : Dev nD) : Fin (cfg1.N + 1) → sProp 𝕄
  | ⟨0, _⟩ => Ring c (result W c) 0
  | ⟨1, _⟩ => Ring c (result W c) 64
  | _ => Rest c (result W c)

/-- What the body never touches: the other buffers of its scope, and the random-number register. -/
def aside (c : Dev nD) : sProp 𝕄 := iprop(Pipeline.scopedRestBut spec1 c [cc1_scratch0] ∗ ∃ r, prngReg (c : Thread nD τ).1 r)

/-- What the call's windows hold after the body at each point: what they held before. -/
def dat (c : Dev nD) : Dat τ (Elt F) Unit ℕ UU ℕ cfg1 c where
  A w := W c (Proc.devRef .tc (Pipeline.arrRef spec1 w))
  after w t := match w with
    | ⟨0, _⟩ => block W c 0 t
    | ⟨1, _⟩ => block W c 1 t
    | ⟨2, _⟩ => block W c 2 t
    | ⟨3, _⟩ => block W c 3 t
    | ⟨4, _⟩ => block W c 4 t
    | ⟨5, _⟩ => block W c 5 t
    | ⟨6, _⟩ => block W c 6 t
    | ⟨7, _⟩ => block W c 7 t
    | ⟨8, _⟩ => block W c 8 t
    | ⟨9, _⟩ => block W c 9 t
    | ⟨10, _⟩ => block W c 10 t
    | ⟨11, _⟩ => block W c 11 t
  Φ t := iprop(held W c t ∗ aside c)
  q _ := fullShare
  owed _ := 0

/-- Every window's buffer holds its block when the body is entered. -/
theorem staged (c : Dev nD) (t : Fin cfg1.N) :
    (∀ d, (dat W c).before 0 t d = block W c 0 t) ∧ (∀ d, (dat W c).before 1 t d = block W c 1 t) ∧ (∀ d, (dat W c).before 2 t d = block W c 2 t)
    ∧ (∀ d, (dat W c).before 3 t d = block W c 3 t) ∧ (∀ d, (dat W c).before 4 t d = block W c 4 t) ∧ (∀ d, (dat W c).before 5 t d = block W c 5 t)
    ∧ (∀ d, (dat W c).before 6 t d = block W c 6 t) ∧ (∀ d, (dat W c).before 7 t d = block W c 7 t) ∧ (∀ d, (dat W c).before 8 t d = block W c 8 t)
    ∧ (∀ d, (dat W c).before 9 t d = block W c 9 t) ∧ (∀ d, (dat W c).before 10 t d = block W c 10 t) ∧ (∀ d, (dat W c).before 11 t d = block W c 11 t) := by
  refine ⟨?_, ?_, ?_, ?_, ?_, ?_, ?_, ?_, ?_, ?_, ?_, ?_⟩ <;> intro d <;>
    exact (Dat.before_in_eq_fetched _ _ rfl (fun _ => rfl) (fun _ _ _ => rfl) (fun t => rfl) t d).trans rfl

/-- The body at the first grid point: its copies of the last two steps are left in flight. -/
theorem first_ok (c : Dev nD) (H : OutBuf (F := F) c) (Q : PUnit → sProp 𝕄) (x : Memref sig .tc .vmem S1024x32 .f32) (hx) (ut : Memref sig .tc .vmem S512x1024 .f32) (hut)
    (w1 : Memref sig .tc .vmem S32x512 .f32) (hw1) (b1 : Memref sig .tc .vmem S1x512 .f32) (hb1) (w2 : Memref sig .tc .vmem S512x512 .f32) (hw2)
    (b2 : Memref sig .tc .vmem S1x512 .f32) (hb2) (w3 : Memref sig .tc .vmem S512x512 .f32) (hw3) (b3 : Memref sig .tc .vmem S1x512 .f32) (hb3)
    (wo : Memref sig .tc .vmem S512x96 .f32) (hwo) (bo : Memref sig .tc .vmem S1x96 .f32) (hbo) (a : Memref sig .tc .vmem S128x128 .f32) (ha)
    (b : Memref sig .tc .vmem S8x128 .f32) (hb) (hout hstage)
    (vu : Vec F S512x1024 .f32) (vx : Vec F S1024x32 .f32) (v1 : Vec F S32x512 .f32) (u1 : Vec F S1x512 .f32) (v2 : Vec F S512x512 .f32)
    (u2 : Vec F S1x512 .f32) (v3 : Vec F S512x512 .f32) (u3 : Vec F S1x512 .f32) (vo : Vec F S512x96 .f32) (uo : Vec F S1x96 .f32)
    (va : Vec F S128x128 .f32) (vb : Vec F S8x128 .f32)
    (hH : ∀ k (hk : k < 64), (piece outM (grid1.coords t1_0) k hk).view.read (Elt F) H
      = iter va vb vu (k1_pay2 vx v1 u1 v2 u2 v3 u3 vo uo) (k + 1)) :
    iprop(read c x w1 b1 w2 b2 w3 b3 wo bo a b vx v1 u1 v2 u2 v3 u3 vo uo va vb
        ∗ owns (c : Thread nD τ) ut fullShare vu ∗ Inv c H 0)
      ⊢ iprop((iprop(read c x w1 b1 w2 b2 w3 b3 wo bo a b vx v1 u1 v2 u2 v3 u3 vo uo va vb
            ∗ owns (c : Thread nD τ) ut fullShare vu ∗ Inv c H 64) -∗ Q ⟨⟩)
        -∗ runs (F := F) c Q (cc1_koopman_recurrence (F := F) (grid1.coords ⟨0, by decide⟩) x hx ut hut w1 hw1 b1 hb1 w2 hw2 b2 hb2 w3 hw3 b3 hb3 wo hwo bo hbo a ha b hb outM hout stageM hstage cc1_scratch1)) := by
  rw [body_eq_first]
  have e : ((grid1.coords ⟨0, by decide⟩) 0).val = 0 := rfl
  have hs := body_steps c H Q (grid1.coords ⟨0, by decide⟩) ut x w1 b1 w2 b2 w3 b3 wo bo a b false false (by decide) vu vx v1 u1 v2 u2 v3 u3 vo uo va vb hH
  rw [e] at hs
  iintro H Hk
  iapply hs $$ H
  iintro ⟨Hr, Hu, HI⟩
  unfold ending runs
  rw [wp_ret]
  imodintro
  iapply Hk
  isplitl [Hr]; · iexact Hr
  isplitl [Hu]; · iexact Hu
  iexact HI

/-- The body at the last grid point: nothing is left in flight. -/
theorem last_ok (c : Dev nD) (H : OutBuf (F := F) c) (Q : PUnit → sProp 𝕄) (x : Memref sig .tc .vmem S1024x32 .f32) (hx) (ut : Memref sig .tc .vmem S512x1024 .f32) (hut)
    (w1 : Memref sig .tc .vmem S32x512 .f32) (hw1) (b1 : Memref sig .tc .vmem S1x512 .f32) (hb1) (w2 : Memref sig .tc .vmem S512x512 .f32) (hw2)
    (b2 : Memref sig .tc .vmem S1x512 .f32) (hb2) (w3 : Memref sig .tc .vmem S512x512 .f32) (hw3) (b3 : Memref sig .tc .vmem S1x512 .f32) (hb3)
    (wo : Memref sig .tc .vmem S512x96 .f32) (hwo) (bo : Memref sig .tc .vmem S1x96 .f32) (hbo) (a : Memref sig .tc .vmem S128x128 .f32) (ha)
    (b : Memref sig .tc .vmem S8x128 .f32) (hb) (hout hstage)
    (vu : Vec F S512x1024 .f32) (vx : Vec F S1024x32 .f32) (v1 : Vec F S32x512 .f32) (u1 : Vec F S1x512 .f32) (v2 : Vec F S512x512 .f32)
    (u2 : Vec F S1x512 .f32) (v3 : Vec F S512x512 .f32) (u3 : Vec F S1x512 .f32) (vo : Vec F S512x96 .f32) (uo : Vec F S1x96 .f32)
    (va : Vec F S128x128 .f32) (vb : Vec F S8x128 .f32)
    (hH : ∀ k (hk : k < 64), (piece outM (grid1.coords t1_1) k hk).view.read (Elt F) H
      = iter va vb vu (k1_pay2 vx v1 u1 v2 u2 v3 u3 vo uo) (k + 1)) :
    iprop(read c x w1 b1 w2 b2 w3 b3 wo bo a b vx v1 u1 v2 u2 v3 u3 vo uo va vb
        ∗ owns (c : Thread nD τ) ut fullShare vu ∗ Inv c H 64)
      ⊢ iprop((iprop(read c x w1 b1 w2 b2 w3 b3 wo bo a b vx v1 u1 v2 u2 v3 u3 vo uo va vb
            ∗ owns (c : Thread nD τ) ut fullShare vu ∗ Done c H) -∗ Q ⟨⟩)
        -∗ runs (F := F) c Q (cc1_koopman_recurrence (F := F) (grid1.coords ⟨1, by decide⟩) x hx ut hut w1 hw1 b1 hb1 w2 hw2 b2 hb2 w3 hw3 b3 hb3 wo hwo bo hbo a ha b hb outM hout stageM hstage cc1_scratch1)) := by
  rw [body_eq_last]
  have e : ((grid1.coords ⟨1, by decide⟩) 0).val = 1 := rfl
  have hs := body_steps c H Q (grid1.coords ⟨1, by decide⟩) ut x w1 b1 w2 b2 w3 b3 wo bo a b true true (by decide) vu vx v1 u1 v2 u2 v3 u3 vo uo va vb hH
  rw [e] at hs
  iintro H Hk
  iapply hs $$ H
  iintro ⟨Hr, Hu, HI⟩
  iapply (drain_ok c H Q (grid1.coords ⟨1, by decide⟩) (.ret ⟨⟩)) $$ HI
  iintro HD
  unfold runs
  rw [wp_ret]
  imodintro
  iapply Hk
  isplitl [Hr]; · iexact Hr
  isplitl [Hu]; · iexact Hu
  iexact HD

/-- The body at either point. -/
theorem body_ok (c : Dev nD) : BodyObligation (dat W c) (defs₀ (F := F)) Variants.none () Set.univ := fun t => by
  rw [bigSep_W1, bigSep_W1]
  rcases fin_N1 t with rfl | rfl
  · have hp := piece_result W c t1_0
    rw [show (dat W c).Φ t1_0.castSucc = iprop(Ring c (result W c) 0 ∗ aside c) from rfl,
      show (dat W c).Φ t1_0.succ = iprop(Ring c (result W c) 64 ∗ aside c) from rfl]
    obtain ⟨s0, s1, s2, s3, s4, s5, s6, s7, s8, s9, s10, s11⟩ := staged W c t1_0
    simp only [s0, s1, s2, s3, s4, s5, s6, s7, s8, s9, s10, s11]
    iintro ⟨⟨HR, HX⟩, ⟨%Wd, %hWd, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HI := ring_in c (result W c) 0 $$ [HR Ho]
    · isplitl [HR]; · iexact HR
      iexists _; iexact Ho
    iapply (first_ok c (result W c) _ _ _ _ _ _ _ _ _ _ _ _ _ _ _ _ _ _ _ _ _ _ _ _ _ _ _ (block W c 1 t1_0) (block W c 0 t1_0) (block W c 2 t1_0) (block W c 3 t1_0) (block W c 4 t1_0) (block W c 5 t1_0) (block W c 6 t1_0) (block W c 7 t1_0) (block W c 8 t1_0) (block W c 9 t1_0) (block W c 10 t1_0) (block W c 11 t1_0) hp) $$ [H0 H1 H2 H3 H4 H5 H6 H7 H8 H9 H10 H11 HI]
    · isplitr [H1 HI]
      · unfold read
        isplitl [H0]; · iexact H0
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      isplitl [H1]; · iexact H1
      iexact HI
    unfold read
    iintro ⟨⟨H0, H2, H3, H4, H5, H6, H7, H8, H9, H10, H11⟩, H1, HI⟩
    ihave HI := ring_out c (result W c) 64 $$ HI
    icases HI with ⟨HR, %Wd', Ho⟩
    isplitl [HR HX]
    · isplitl [HR]; · iexact HR
      iexact HX
    isplitl [Ho]
    · iexists Wd'; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hp := piece_result W c t1_1
    rw [show (dat W c).Φ t1_1.castSucc = iprop(Ring c (result W c) 64 ∗ aside c) from rfl,
      show (dat W c).Φ t1_1.succ = iprop(Rest c (result W c) ∗ aside c) from rfl]
    obtain ⟨s0, s1, s2, s3, s4, s5, s6, s7, s8, s9, s10, s11⟩ := staged W c t1_1
    simp only [s0, s1, s2, s3, s4, s5, s6, s7, s8, s9, s10, s11]
    iintro ⟨⟨HR, HX⟩, ⟨%Wd, %hWd, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HI := ring_in c (result W c) 64 $$ [HR Ho]
    · isplitl [HR]; · iexact HR
      iexists _; iexact Ho
    iapply (last_ok c (result W c) _ _ _ _ _ _ _ _ _ _ _ _ _ _ _ _ _ _ _ _ _ _ _ _ _ _ _ (block W c 1 t1_1) (block W c 0 t1_1) (block W c 2 t1_1) (block W c 3 t1_1) (block W c 4 t1_1) (block W c 5 t1_1) (block W c 6 t1_1) (block W c 7 t1_1) (block W c 8 t1_1) (block W c 9 t1_1) (block W c 10 t1_1) (block W c 11 t1_1) hp) $$ [H0 H1 H2 H3 H4 H5 H6 H7 H8 H9 H10 H11 HI]
    · isplitr [H1 HI]
      · unfold read
        isplitl [H0]; · iexact H0
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      isplitl [H1]; · iexact H1
      iexact HI
    unfold read
    iintro ⟨⟨H0, H2, H3, H4, H5, H6, H7, H8, H9, H10, H11⟩, H1, HI⟩
    ihave HI := rest_out c (result W c) $$ HI
    icases HI with ⟨HR, %Wd', Ho⟩
    isplitl [HR HX]
    · isplitl [HR]; · iexact HR
      iexact HX
    isplitl [Ho]
    · iexists Wd'; isplitr; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Koop

end
-- ==== Proof.Records.lean ====
/-
  The two calls as records: what each is entered from and left with, over every unscoped buffer.

  `U2 m c` has the first call's result, `U3 m c` is `U2 m c` after the host operations between the calls, and `U4 m c` has
  the second call's result.
-/
module

public import proofs.«01_k».proof.Proof.Gen.KernelIdeal.Regions
public import proofs.«01_k».proof.Proof.Region0
public import proofs.«01_k».proof.Proof.Call1
public import Idealize.ShloMosaic.Lib.Pipeline.RegionArraysD

@[expose] public section

set_option maxRecDepth 16384

noncomputable section

namespace Cert.KernelIdeal.Koop

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ UU ℕ

variable (m : (ℓ : Loc nD τ sig) → Buf (Elt F) ℓ)

/-! ## The contents of the buffers -/

/-- The first call's result. -/
def lifted (c : Dev nD) : Buf (Elt F) ((c : Thread nD τ).loc main_v5) := (Lift.dat (V1 m) c).arrAt 9 cfg0.N
/-- The buffers after the first call. -/
def U2 (c : Dev nD) : Valuation τ sig (Elt F) := Function.update (V1 m c) (Proc.devRef .tc main_v5) (lifted m c)
/-- The buffers before the second call. -/
def U3 (c : Dev nD) : Valuation τ sig (Elt F) := StableHlo.after hostOps1 (U2 m c)
/-- The buffers after the second call. -/
def U4 (c : Dev nD) : Valuation τ sig (Elt F) := Function.update (U3 m c) (Proc.devRef .tc main_v9) (result (U3 m) c)

/-- What the calls leave in their results. -/
def outs : Outs (F := F) := fun k r c => if k = 2 then U2 m c (Proc.devRef .tc r) else U4 m c (Proc.devRef .tc r)

theorem outs_first (c : Dev nD) : outs m 2 main_v5 c = lifted m c :=
  (show outs m 2 main_v5 c = U2 m c (Proc.devRef .tc main_v5) from if_pos rfl).trans
    (by unfold U2; exact Function.update_self _ _ _)

theorem outs_second (c : Dev nD) : outs m 4 main_v9 c = result (U3 m) c :=
  (show outs m 4 main_v9 c = U4 m c (Proc.devRef .tc main_v9) from if_neg (by omega)).trans
    (by unfold U4; exact Function.update_self _ _ _)

theorem V2_eq (c : Dev nD) : V2 m (outs m) c = U2 m c := congrArg (Function.update (V1 m c) (Proc.devRef .tc main_v5)) (outs_first m c)

theorem V3_eq (c : Dev nD) : V3 m (outs m) c = U3 m c := congrArg (StableHlo.after hostOps1) (V2_eq m c)

theorem V4_eq (c : Dev nD) : V4 m (outs m) c = U4 m c :=
  (congrArg (Function.update (V3 m (outs m) c) (Proc.devRef .tc main_v9)) (outs_second m c)).trans
    (congrArg (fun V => Function.update V (Proc.devRef .tc main_v9) (result (U3 m) c)) (V3_eq m c))

/-- Both calls' contents. -/
def pdats : (p : Fin 2) → (c : Dev nD) → Dat τ (Elt F) Unit ℕ UU ℕ (cfgs p) c
  | 0 => Lift.dat (V1 m)
  | 1 => dat (U3 m)

/-- Every TensorCore semaphore has one level, the lowest. -/
def L : GSem nD τ sig → Finset Unit := fun g => if g.1.2 = .tc then {()} else ∅
def lv : GSem nD τ sig → Unit → ℕ := fun _ _ => 0

/-- What rides along outside the calls: the random-number register, and that nothing is owed. -/
def E (_ : Fin 3) (c : Dev nD) : sProp 𝕄 := iprop((∃ r, prngReg c r) ∗ ∃ W, owes (c : Thread nD τ) (0 : CellTallies nD τ sig Unit) W)

/-! ## The first call -/

/-- The arrays before the first call. -/
theorem enter0 (c : Dev nD) (w : Fin cfg0.W) : (Lift.dat (V1 m) c).arrAt w 0 = V1 m c (Proc.devRef .tc (Pipeline.arrRef spec0 w)) := rfl

/-- The arrays after the first call. -/
theorem leave0 (c : Dev nD) (w : Fin cfg0.W) :
    (Lift.dat (V1 m) c).arrAt w cfg0.N = U2 m c (Proc.devRef .tc (Pipeline.arrRef spec0 w)) := by
  have h : ∀ w : Fin cfg0.W, (cfg0.win w).isOut = false → Pipeline.arrRef spec0 w ≠ main_v5 →
      (Lift.dat (V1 m) c).arrAt w cfg0.N = U2 m c (Proc.devRef .tc (Pipeline.arrRef spec0 w)) := fun w hi hn =>
    ((Lift.dat (V1 m) c).arrAt_in w hi _).trans
      (show V1 m c (Proc.devRef .tc (Pipeline.arrRef spec0 w)) = U2 m c (Proc.devRef .tc (Pipeline.arrRef spec0 w)) from by
        unfold U2; exact (Function.update_of_ne (StableHlo.devRef_ne_of_ne hn) _ _).symm)
  fin_cases w
  all_goals first
    | exact h _ rfl (by decide)
    | exact (Function.update_self (Proc.devRef .tc main_v5 : DevRef τ sig) (lifted m c) (V1 m c)).symm

/-- The first call's body holds only the buffers of its scope. -/
theorem rest0 (c : Dev nD) : (iprop(Pipeline.scopedRest spec0 c ∗ BI.emp) : sProp 𝕄) ⊣⊢ Pipeline.scopedRest spec0 c := by
  constructor
  · iintro ⟨H, -⟩; iexact H
  · iintro H
    isplitl [H]; · iexact H
    iempintro

theorem share0 (c : Dev nD) (w : Fin cfg0.W) : (Lift.dat (V1 m) c).share w = fullShare := by
  unfold Dat.share; split <;> rfl

/-- The first call, from the buffers after the first host operations to `U2`. -/
def record0 : RegionSeg (pcfgs (F := F)) adm (pdats m) () defs₀ Variants.none L lv 0 :=
  RegionSeg.ofHeld pcfgs adm (pdats m) () defs₀ Variants.none L lv 0 (fun _ => 0) (fun _ => BI.emp) (fun _ => BI.emp)
    launch0.toP rfl (fun c => (Lift.body_ok (V1 m) c).loose) (fun _ _ => rfl) (fun _ => rfl) (fun c w => share0 m c w)
    (fun c => (rest0 c).1) (fun c => (rest0 c).2)
    (fun _ => 0) ⟨fun _ _ _ => by simp [L], fun _ _ _ => le_refl _, fun _ _ _ h => absurd h (lt_irrefl _)⟩
    (fun c => iprop(StableHlo.held (c : Thread nD τ) (Pipeline.ucRefs τ sig \ Pipeline.arrRefs spec0) (V1 m c) ∗ ∃ r, prngReg c r))
    (V1 m) (U2 m) (enter0 m) (leave0 m)

theorem arrays0 : Pipeline.arrRefs spec0 ⊆ Pipeline.ucRefs τ sig := Pipeline.arrRefs_sub_ucRefs spec0 (by decide)
theorem arrays1 : Pipeline.arrRefs spec1 ⊆ Pipeline.ucRefs τ sig := Pipeline.arrRefs_sub_ucRefs spec1 (by decide)

/-- The first call is entered from every unscoped buffer. -/
theorem pre0 (c : Dev nD) : iprop(StableHlo.held (c : Thread nD τ) (Pipeline.ucRefs τ sig) (V1 m c) ∗ E 0 c) ⊢ (record0 m).pre c := by
  rw [StableHlo.held_sub_split (c : Thread nD τ) arrays0 (V1 m c)]
  unfold E
  iintro ⟨⟨Ha, Hr⟩, Hp, HO⟩
  iapply (show iprop(StableHlo.held (c : Thread nD τ) (Pipeline.arrRefs spec0) (V1 m c) ∗ BI.emp
    ∗ iprop(StableHlo.held (c : Thread nD τ) (Pipeline.ucRefs τ sig \ Pipeline.arrRefs spec0) (V1 m c) ∗ ∃ r, prngReg c r)
    ∗ ∃ W, owes (c : Thread nD τ) (0 : CellTallies nD τ sig Unit) W) ⊢ (record0 m).pre c from .rfl)
  isplitl [Ha]; · iexact Ha
  isplitr; · iempintro
  isplitl [Hr Hp]
  · isplitl [Hr]; · iexact Hr
    iexact Hp
  iexact HO

/-- The first call is left with every unscoped buffer. -/
theorem post0 (c : Dev nD) : (record0 m).post c ⊢ iprop(StableHlo.held (c : Thread nD τ) (Pipeline.ucRefs τ sig) (V2 m (outs m) c) ∗ E 1 c) := by
  have hn : (Proc.devRef .tc main_v5 : DevRef τ sig) ∈ Pipeline.arrRefs spec0 := by decide
  have he : (StableHlo.held (c : Thread nD τ) (Pipeline.ucRefs τ sig \ Pipeline.arrRefs spec0) (V1 m c) : sProp 𝕄)
      = StableHlo.held (c : Thread nD τ) (Pipeline.ucRefs τ sig \ Pipeline.arrRefs spec0) (U2 m c) :=
    StableHlo.held_congr _ fun b hb => by
      have hb' : b ≠ Proc.devRef .tc main_v5 := fun e => (Finset.mem_sdiff.mp hb).2 (e ▸ hn)
      unfold U2; exact (Function.update_of_ne hb' _ _).symm
  rw [V2_eq, StableHlo.held_sub_split (c : Thread nD τ) arrays0 (U2 m c), ← he]
  unfold E
  refine (show (record0 m).post c ⊢ iprop(StableHlo.held (c : Thread nD τ) (Pipeline.arrRefs spec0) (U2 m c) ∗ BI.emp
    ∗ iprop(StableHlo.held (c : Thread nD τ) (Pipeline.ucRefs τ sig \ Pipeline.arrRefs spec0) (V1 m c) ∗ ∃ r, prngReg c r)
    ∗ ∃ W, owes (c : Thread nD τ) (0 : CellTallies nD τ sig Unit) W) from .rfl).trans ?_
  iintro ⟨Ha, -, ⟨Hr, Hp⟩, HO⟩
  isplitl [Ha Hr]
  · isplitl [Ha]; · iexact Ha
    iexact Hr
  isplitl [Hp]; · iexact Hp
  iexact HO

/-! ## The second call -/

/-- The arrays before the second call. -/
theorem enter1 (c : Dev nD) (w : Fin cfg1.W) : (dat (U3 m) c).arrAt w 0 = U3 m c (Proc.devRef .tc (Pipeline.arrRef spec1 w)) := rfl

/-- The windowed arrays after the second call: none is written. -/
theorem leave1 (c : Dev nD) (w : Fin cfg1.W) :
    (dat (U3 m) c).arrAt w cfg1.N = U4 m c (Proc.devRef .tc (Pipeline.arrRef spec1 w)) := by
  have h : ∀ w : Fin cfg1.W, (cfg1.win w).isOut = false → Pipeline.arrRef spec1 w ≠ main_v9 →
      (dat (U3 m) c).arrAt w cfg1.N = U4 m c (Proc.devRef .tc (Pipeline.arrRef spec1 w)) := fun w hi hn =>
    ((dat (U3 m) c).arrAt_in w hi _).trans
      (show U3 m c (Proc.devRef .tc (Pipeline.arrRef spec1 w)) = U4 m c (Proc.devRef .tc (Pipeline.arrRef spec1 w)) from by
        unfold U4; exact (Function.update_of_ne (StableHlo.devRef_ne_of_ne hn) _ _).symm)
  fin_cases w <;> exact h _ rfl (by decide)

theorem share1 (c : Dev nD) (w : Fin cfg1.W) : (dat (U3 m) c).share w = fullShare := by
  unfold Dat.share; split <;> rfl

/-- The call's own semaphores. -/
abbrev osem (k : Fin 2) : SemLoc sig := semOf k.val

theorem ownFacts : Pipeline.OwnSemFacts spec1 osem := by decide

/-- The staging buffer out of the buffers of the call's scope. -/
theorem rest1 (c : Dev nD) : (Pipeline.scopedRest spec1 c : sProp 𝕄)
    = iprop((∃ f, stageAt (F := F) c Finset.univ f) ∗ Pipeline.scopedRestBut spec1 c [cc1_scratch0]) := by
  rw [Pipeline.scopedRest_split_of_list spec1 c [cc1_scratch0] (by decide) (by decide)]
  rfl

theorem own1 (c : Dev nD) : (Pipeline.ownSems0 osem c : sProp 𝕄)
    = iprop(semVal ((c : Thread nD τ), semOf 0) 0 ∗ semVal ((c : Thread nD τ), semOf 1) 0) := by
  unfold Pipeline.ownSems0
  exact bigSep_univ_eq_bigSepL [0, 1] (by decide) (by decide) _

/-- The second call's result, held whole. -/
theorem out1 (c : Dev nD) (V : Valuation τ sig (Elt F)) :
    (bigSep ({main_v9} : Finset (Ref sig .tc)) fun b => ((c.tc : Thread nD τ).loc b) ↦{fullShare} V (Proc.devRef .tc b) : sProp 𝕄)
      = outAt c Finset.univ (V (Proc.devRef .tc main_v9)) := by
  rw [bigSep_singleton]

/-- The other unscoped buffers. -/
abbrev others1 : Finset (DevRef τ sig) := Pipeline.ucRefs τ sig \ Pipeline.arrRefs spec1

theorem open1 (c : Dev nD) : (iprop(Pipeline.scopedRest spec1 c ∗ (∃ r, prngReg (c : Thread nD τ).1 r) ∗ Pipeline.ownSems0 osem c
      ∗ (bigSep (∅ : Finset (Ref sig .tc)) fun b => ((c.tc : Thread nD τ).loc b) ↦{fullShare} U3 m c (Proc.devRef .tc b))
      ∗ (bigSep ({main_v9} : Finset (Ref sig .tc)) fun b => ((c.tc : Thread nD τ).loc b) ↦{fullShare} U3 m c (Proc.devRef .tc b))
      ∗ Transfers.MayWaits (c : Thread nD τ) () 0) : sProp 𝕄) ⊢ (dat (U3 m) c).Φ 0 := by
  rw [rest1, own1, out1]
  refine .trans ?_ (show iprop(Ring c (result (U3 m) c) 0 ∗ aside c) ⊢ (dat (U3 m) c).Φ 0 from .rfl)
  unfold aside
  iintro ⟨⟨Hs, Hb⟩, Hp, ⟨H0, H1⟩, -, Ho, -⟩
  isplitr [Hb Hp]
  · iapply (ring_start c (result (U3 m) c))
    isplitl [Ho]; · iexists _; iexact Ho
    isplitl [Hs]; · iexact Hs
    isplitl [H0]; · iexact H0
    iexact H1
  isplitl [Hb]; · iexact Hb
  iexact Hp

theorem close1 (c : Dev nD) : (dat (U3 m) c).Φ (Fin.last cfg1.N) ⊢
    (iprop(Pipeline.scopedRest spec1 c ∗ (∃ r, prngReg (c : Thread nD τ).1 r) ∗ Pipeline.ownSems0 osem c
      ∗ (bigSep (∅ : Finset (Ref sig .tc)) fun b => ((c.tc : Thread nD τ).loc b) ↦{fullShare} U3 m c (Proc.devRef .tc b))
      ∗ (bigSep ({main_v9} : Finset (Ref sig .tc)) fun b => ((c.tc : Thread nD τ).loc b) ↦{fullShare} U4 m c (Proc.devRef .tc b))) : sProp 𝕄) := by
  rw [rest1, own1, out1, show U4 m c (Proc.devRef .tc main_v9) = result (U3 m) c from by unfold U4; exact Function.update_self _ _ _]
  refine (show (dat (U3 m) c).Φ (Fin.last cfg1.N) ⊢ iprop(Rest c (result (U3 m) c) ∗ aside c) from .rfl).trans ?_
  unfold aside Rest
  iintro ⟨⟨Ho, Hs, H0, H1⟩, Hb, Hp⟩
  isplitl [Hs Hb]
  · isplitl [Hs]; · iexact Hs
    iexact Hb
  isplitl [Hp]; · iexact Hp
  isplitl [H0 H1]
  · isplitl [H0]; · iexact H0
    iexact H1
  isplitr [Ho]; · rw [bigSep_empty]; iempintro
  iexact Ho

theorem apart1 (c : Dev nD) (b : DevRef τ sig) (hb : b ≠ Proc.devRef .tc main_v9) : U4 m c b = U3 m c b := by
  unfold U4; exact Function.update_of_ne hb _ _

theorem mem_only : (Proc.devRef .tc main_v9 : DevRef τ sig) ∈ Pipeline.hbmRefs (τ := τ) ({main_v9} : Finset (Ref sig .tc)) :=
  Finset.mem_map.mpr ⟨main_v9, Finset.mem_singleton_self _, rfl⟩

theorem none_sub : Pipeline.hbmRefs (τ := τ) (∅ : Finset (Ref sig .tc)) ⊆ others1 := by
  unfold Pipeline.hbmRefs; rw [Finset.map_empty]; exact Finset.empty_subset _

theorem only_sub : Pipeline.hbmRefs (τ := τ) ({main_v9} : Finset (Ref sig .tc)) ⊆ others1 \ Pipeline.hbmRefs (τ := τ) (∅ : Finset (Ref sig .tc)) := by
  unfold Pipeline.hbmRefs; rw [Finset.map_empty, Finset.sdiff_empty, Finset.map_singleton, Finset.singleton_subset_iff]
  exact Finset.mem_sdiff.mpr ⟨Finset.mem_filter.mpr ⟨StableHlo.devRef_mem_tcRefs main_v9, by decide⟩, by decide⟩

/-- The second call, from `U3` to `U4`. -/
def record1 : RegionSeg (pcfgs (F := F)) adm (pdats m) () defs₀ Variants.none L lv 1 :=
  RegionSeg.ofHeldDW pcfgs adm (pdats m) () defs₀ Variants.none L lv 1 (fun _ => 0) () osem ownFacts ∅ {main_v9} others1 none_sub only_sub
    launch1.toP rfl (fun c => (body_ok (U3 m) c).loose) (fun _ _ => rfl) (fun _ => rfl) (fun c w => share1 m c w)
    (fun c => (show levAts L lv ⊢ (BI.emp : sProp 𝕄) from by iintro -; iempintro).trans (Transfers.MayWaits.zero (c : Thread nD τ) ()))
    (U3 m) (U4 m) (fun c b hb => apart1 m c b fun e => (Finset.mem_sdiff.mp hb).2 (e ▸ mem_only))
    (open1 m) (close1 m)
    (fun _ => 0) ⟨fun _ _ _ => by simp [L], fun _ _ _ => le_refl _, fun _ _ _ h => absurd h (lt_irrefl _)⟩
    (fun _ => BI.emp) (enter1 m) (leave1 m)

/-- The second call is entered from every unscoped buffer. -/
theorem pre1 (c : Dev nD) : iprop(StableHlo.held (c : Thread nD τ) (Pipeline.ucRefs τ sig) (V3 m (outs m) c) ∗ E 1 c) ⊢ (record1 m).pre c := by
  rw [V3_eq, StableHlo.held_sub_split (c : Thread nD τ) arrays1 (U3 m c)]
  unfold E
  refine .trans ?_ (show iprop(StableHlo.held (c : Thread nD τ) (Pipeline.arrRefs spec1) (U3 m c) ∗ (∃ r, prngReg c r)
    ∗ (StableHlo.held (c : Thread nD τ) others1 (U3 m c) ∗ BI.emp) ∗ ∃ W, owes (c : Thread nD τ) (0 : CellTallies nD τ sig Unit) W)
    ⊢ (record1 m).pre c from .rfl)
  iintro ⟨⟨Ha, Hr⟩, Hp, HO⟩
  isplitl [Ha]; · iexact Ha
  isplitl [Hp]; · iexact Hp
  isplitl [Hr]
  · isplitl [Hr]; · iexact Hr
    iempintro
  iexact HO

/-- The second call is left with every unscoped buffer. -/
theorem post1 (c : Dev nD) : (record1 m).post c ⊢ iprop(StableHlo.held (c : Thread nD τ) (Pipeline.ucRefs τ sig) (V4 m (outs m) c) ∗ E 2 c) := by
  rw [V4_eq, StableHlo.held_sub_split (c : Thread nD τ) arrays1 (U4 m c)]
  unfold E
  refine (show (record1 m).post c ⊢ iprop(StableHlo.held (c : Thread nD τ) (Pipeline.arrRefs spec1) (U4 m c) ∗ (∃ r, prngReg c r)
    ∗ (StableHlo.held (c : Thread nD τ) others1 (U4 m c) ∗ BI.emp) ∗ ∃ W, owes (c : Thread nD τ) (0 : CellTallies nD τ sig Unit) W) from .rfl).trans ?_
  iintro ⟨Ha, Hp, ⟨Hr, -⟩, HO⟩
  isplitl [Ha Hr]
  · isplitl [Ha]; · iexact Ha
    iexact Hr
  isplitl [Hp]; · iexact Hp
  iexact HO

end Cert.KernelIdeal.Koop

end
-- ==== Proof.Whole.lean ====
/-
  The whole program: from any memory with its counters at zero, every execution ends with every unscoped buffer at the
  contents that the calls and the host operations leave (`V5 m (outs m)`), and with every counter at zero.
-/
module

public import proofs.«01_k».proof.Proof.Records
public import Idealize.ShloMosaic.Lib.Pipeline.Regions

@[expose] public section

set_option maxRecDepth 16384

noncomputable section

namespace Cert.KernelIdeal.Koop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

variable (m : (ℓ : Loc nD τ sig) → Buf (Elt F) ℓ) (ρ : Dev nD → PrngReg)

/-- The pipeline's part of the resources. -/
abbrev EP : Emb (UR sig nD τ) 𝕄 := embL

/-- The resources at launch: the pipeline's, and no counter. -/
def start : UU := (initOf (Pipeline.cells cfgs cellOf_inj) (Pipeline.launchToks cfgs cellOf_inj), 1)

theorem start_own : (ownU start : sProp 𝕄) ⊢ |={Set.univ}=>
    iprop(BI.own ((EP (F := F)) (initOf (Pipeline.cells cfgs cellOf_inj) (Pipeline.launchToks cfgs cellOf_inj))) ∗ bigSep Finset.univ fun _ : Dev nD => (BI.emp : sProp 𝕄)) := by
  unfold start
  iintro Hu
  ihave H := (ownU_pair _ _) $$ Hu
  icases H with ⟨HP, -⟩
  imodintro
  isplitl [HP]; · iexact HP
  rw [bigSep_emp_const]
  iempintro

set_option backward.isDefEq.respectTransparency.types false in
/-- Every execution ends with the buffers at `V5 m (outs m)` and the counters at zero. -/
theorem run_all : θ_run defs (onTc (τ := τ) (main (F := F))) ⟨m, fun _ => 0, ρ⟩ (fun r =>
    (∀ c : Dev nD, ∀ b ∈ Pipeline.ucRefs τ sig, r.2.mem (c, b) = V5 m (outs m) c b) ∧ r.2.sem = fun _ => 0) := by
  refine Pipeline.θ_run_regions_kit_dev_sems (pcfgs (F := F)) adm (pdats m) () cellOf_inj EP defs₀ Variants.none L lv m ρ main
    (segs m (outs m) Variants.none L lv E () (pdats m) (record0 m) (record1 m))
    (fun c Q => by
      rewrite [main_chain c, Seg.run_eq_chain,
        show (segs m (outs m) Variants.none L lv E () (pdats m) (record0 m) (record1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) start start_own
    (T₀ := fun c => iprop(StableHlo.held (c : Thread nD τ) (Pipeline.ucRefs τ sig) (V0 m c) ∗ E 0 c))
    (Tₙ := fun c => StableHlo.held (c : Thread nD τ) (Pipeline.ucRefs τ sig) (V5 m (outs m) c))
    (hch := fun c => ⟨.rfl, pre0 m c, post0 m c, pre1 m c, post1 m c, sep_mono .rfl ?_⟩)
    (hinit := ?_) (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  · show E 2 c ⊢ _
    unfold E
    iintro ⟨-, HO⟩; iexact HO
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    unfold E
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

/-- A TensorCore buffer that no scope frees is read at its contents in `V5`. -/
theorem mem_uc (r : Ref sig .tc) (h : r.isScoped = false) : (Proc.devRef .tc r : DevRef τ sig) ∈ Pipeline.ucRefs τ sig :=
  Finset.mem_filter.mpr ⟨StableHlo.devRef_mem_tcRefs r, fun e => Bool.false_ne_true (h.symm.trans e)⟩

end Cert.KernelIdeal.Koop

end
-- ==== Proof.Same.lean ====
/-
  The kernel at rounded arithmetic and the kernel at the extended reals are one text, printed twice: what is proved of
  the second one's runs for any kind of numbers is so of the first one's.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

set_option maxHeartbeats 0 in
/-- The two tables of bodies are the same. -/
theorem bodies : Cert.Kernel.defs₀ (F := F) = Cert.KernelIdeal.defs₀ (F := F) := by
  unfold Cert.Kernel.defs₀ Cert.KernelIdeal.defs₀
  refine congrArg (Defs.onTc (nD := 1)) ?_
  funext l a
  match l, a with
  | ⟨0, _⟩, (t, s) => rfl
  | ⟨1, _⟩, (t, s) => rfl

/-- And so are the two tables with the calls' own code. -/
theorem tables : Cert.Kernel.defs (F := F) = Cert.KernelIdeal.defs (F := F) := by
  unfold Cert.Kernel.defs Cert.KernelIdeal.defs
  rw [bodies]
  with_unfolding_all rfl

end Cert.Same

end
-- ==== Proof.Frames.lean ====
/-
  The two frame claims of the kernel. The run of Proof/Whole.lean is for any kind of numbers, so one statement serves the
  program read at the extended reals and, being the same text, the program read at rounded arithmetic.
-/
module

public import proofs.«01_k».proof.Proof.Whole
public import proofs.«01_k».proof.Proof.Same

@[expose] public section

noncomputable section

namespace Cert.KernelIdeal.Koop

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- The arguments end as they were. -/
abbrev Kept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)

/-- A state with every unscoped buffer at the end's contents has the arguments as they were. -/
theorem kept (r : PUnit × MemSt nD τ sig (Elt F)) (h : ∀ c : Dev nD, ∀ b ∈ Pipeline.ucRefs τ sig, r.2.mem (c, b) = V5 m (outs m) c b) (c : Dev nD) :
    Kept m r c :=
  ⟨(h c (Proc.devRef .tc main_arg0) (mem_uc main_arg0 rfl)).trans (V5_main_arg0 m (outs m) c),
        (h c (Proc.devRef .tc main_arg1) (mem_uc main_arg1 rfl)).trans (V5_main_arg1 m (outs m) c),
        (h c (Proc.devRef .tc main_arg2) (mem_uc main_arg2 rfl)).trans (V5_main_arg2 m (outs m) c),
        (h c (Proc.devRef .tc main_arg3) (mem_uc main_arg3 rfl)).trans (V5_main_arg3 m (outs m) c),
        (h c (Proc.devRef .tc main_arg4) (mem_uc main_arg4 rfl)).trans (V5_main_arg4 m (outs m) c),
        (h c (Proc.devRef .tc main_arg5) (mem_uc main_arg5 rfl)).trans (V5_main_arg5 m (outs m) c),
        (h c (Proc.devRef .tc main_arg6) (mem_uc main_arg6 rfl)).trans (V5_main_arg6 m (outs m) c),
        (h c (Proc.devRef .tc main_arg7) (mem_uc main_arg7 rfl)).trans (V5_main_arg7 m (outs m) c),
        (h c (Proc.devRef .tc main_arg8) (mem_uc main_arg8 rfl)).trans (V5_main_arg8 m (outs m) c),
        (h c (Proc.devRef .tc main_arg9) (mem_uc main_arg9 rfl)).trans (V5_main_arg9 m (outs m) c),
        (h c (Proc.devRef .tc main_arg10) (mem_uc main_arg10 rfl)).trans (V5_main_arg10 m (outs m) c),
        (h c (Proc.devRef .tc main_arg11) (mem_uc main_arg11 rfl)).trans (V5_main_arg11 m (outs m) c),
        (h c (Proc.devRef .tc main_arg12) (mem_uc main_arg12 rfl)).trans (V5_main_arg12 m (outs m) c)⟩

/-- Every execution ends with the arguments as they were and the counters at zero. -/
theorem frame_any : θ_run defs (onTc (τ := τ) (main (F := F))) ⟨m, fun _ => 0, ρ⟩ (fun r => (∀ c : Dev nD, Kept m r c) ∧ r.2.sem = fun _ => 0) :=
  (θ_run defs _ _).mono (fun r h => ⟨fun c => kept m r h.1 c, h.2⟩) (run_all m ρ)

end Cert.KernelIdeal.Koop

namespace Cert.Same

open Idealize.ShloMosaic Idealize.ShloMosaic.TcCoe Idealize.SL.Sem

variable {F : FTy → Type} [FloatOps F]

/-- The two programs are the same. -/
theorem mains : Cert.Kernel.main (F := F) = Cert.KernelIdeal.main (F := F) := rfl

end Cert.Same

end
-- ==== Proof.Model.lean ====
/-
  THE LIFT OF ONE ROW AND ITS RECURRENCE, as plain mathematics over the extended reals, and each program's spelling of
  them read one row at a time. A state row `x` of 32 entries is lifted to 128 entries: the row itself, then the 96 entries of a
  four-layer perceptron of it. Nothing here names a kernel or a reference: every statement is for arrays of any number
  of rows `M`.
-/
module

public import Idealize.ShloMosaic.Lib.MatmulPlain
public import Idealize.ShloMosaic.Lib.StackMember
public import Idealize.ShloMosaic.Lib.ValueIdx
public import Idealize.ShloMosaic.Lib.ValueLayout
public import Idealize.ShloMosaic.Lib.KernelVsHost
public import Idealize.ShloMosaic.Lib.IdealHost
public import Idealize.ShloMosaic.Lib.Pipeline.Value

@[expose] public section

noncomputable section

namespace Koopman

open Idealize.ShloMosaic Idealize.ShloMosaic.ValueIdx
open scoped BigOperators

/-- An `m × n` array of extended reals. -/
abbrev Mat (m n : ℕ) := FVec Ideal ⟨2, ![m, n]⟩ .f32

/-- Row `r` of an array. -/
def row {m n : ℕ} (x : Mat m n) (r : Fin m) : Fin n → EReal := fun j => x (ix2 r j)

/-- The affine map of a layer: `x W + b` for one row `x`. -/
def affine {k n : ℕ} (W : Mat k n) (b : Fin n → EReal) (x : Fin k → EReal) : Fin n → EReal :=
  fun j => (∑ i, x i * W (ix2 i j)) + b j

/-- The positive part, entry by entry. -/
def relu {n : ℕ} (x : Fin n → EReal) : Fin n → EReal := fun j => max (x j) 0

/-- The perceptron's weights and biases. -/
structure Weights where
  W1 : Mat 32 512
  b1 : Fin 512 → EReal
  W2 : Mat 512 512
  b2 : Fin 512 → EReal
  W3 : Mat 512 512
  b3 : Fin 512 → EReal
  Wo : Mat 512 96
  bo : Fin 96 → EReal

/-- The perceptron of one row. -/
def encode (w : Weights) (x : Fin 32 → EReal) : Fin 96 → EReal :=
  affine w.Wo w.bo (relu (affine w.W3 w.b3 (relu (affine w.W2 w.b2 (relu (affine w.W1 w.b1 x))))))

/-- A row of 32 entries followed by a row of 96. -/
def join (x : Fin 32 → EReal) (e : Fin 96 → EReal) : Fin 128 → EReal :=
  fun j => if h : j.val < 32 then x ⟨j.val, h⟩ else e ⟨j.val - 32, by omega⟩

/-- The lift of one row. -/
def lift (w : Weights) (x : Fin 32 → EReal) : Fin 128 → EReal := join x (encode w x)

/-! ## The recurrence of one row -/

/-- The next state of one row: `z A + u B`. -/
def advance (A : Mat 128 128) (B : Mat 8 128) (u : Fin 8 → EReal) (z : Fin 128 → EReal) : Fin 128 → EReal :=
  fun j => (∑ i, z i * A (ix2 i j)) + ∑ c, u c * B (ix2 c j)

/-- The state of one row after `k` steps from `z`, under the inputs `u 0, u 1, …`. -/
def trajectory (A : Mat 128 128) (B : Mat 8 128) (u : ℕ → Fin 8 → EReal) (z : Fin 128 → EReal) : ℕ → Fin 128 → EReal
  | 0 => z
  | k + 1 => advance A B (u k) (trajectory A B u z k)

/-- The inputs of row `n`, step by step: entry `k` of the control sequence. -/
def controls (u : FVec Ideal ⟨3, ![2048, 64, 8]⟩ .f32) (n : Fin 2048) : ℕ → Fin 8 → EReal :=
  fun k c => if h : k < 64 then u (ix3 n ⟨k, h⟩ c) else 0

/-- Every row's lift. -/
def lifts {m : ℕ} (w : Weights) (x : Mat m 32) : Mat m 128 := fun i => lift w (row x (i 0)) (i 1)

/-- Every row's states after the steps 1 to 64, from the row's lift. -/
def predictions (w : Weights) (A : Mat 128 128) (B : Mat 8 128) (x : Mat 2048 32) (u : FVec Ideal ⟨3, ![2048, 64, 8]⟩ .f32) :
    FVec Ideal ⟨3, ![2048, 64, 128]⟩ .f32 :=
  fun i => trajectory A B (controls u (i 0)) (lift w (row x (i 0))) ((i 1).val + 1) (i 2)

/-! ## The kernels' spelling -/

/-- A product onto zeros plus a one-row bias repeated down the rows is the layer's affine map, row by row. -/
theorem row_dense {m k n : ℕ} {d : DotDims ⟨2, ![m, k]⟩ ⟨2, ![k, n]⟩ ⟨2, ![m, n]⟩} (hd : d = DotDims.plain m k n)
    (x : Mat m k) (W : Mat k n) (b : Mat 1 n) (h : (⟨2, ![1, n]⟩ : Shape).Broadcasts ⟨2, ![m, n]⟩) (r : Fin m) :
    row (addf (matmul d none x W (constant ⟨2, ![m, n]⟩ .f32 0x00000000#32)) (broadcastTo ⟨2, ![m, n]⟩ b h)) r
      = affine W (row b 0) (row x r) := by
  subst hd
  funext j
  unfold row affine
  rw [addf_apply, broadcastTo_1b_ab_apply, show matmul (DotDims.plain m k n) none x W (constant ⟨2, ![m, n]⟩ .f32 0x00000000#32) (ix2 r j) = _ from
    Ideal.matmul_plain_apply none x W _ r j, constant_apply, Ideal.ofBits_zero_f32, zero_add]

/-- The maximum with a splat zero is the positive part, row by row. -/
theorem row_relu {m n : ℕ} (x : Mat m n) (r : Fin m) :
    row (maximumf x (broadcast ⟨2, ![m, n]⟩ (Scalar.ofBits (F := Ideal) .f32 0x00000000#32))) r = relu (row x r) := by
  funext j
  unfold row relu
  rw [maximumf_apply, broadcast_apply]
  exact congrArg _ Ideal.ofBits_zero_f32

/-- Two arrays side by side are joined row by row. -/
theorem row_join {m : ℕ} (x : Mat m 32) (e : Mat m 96)
    (h : Shape.Concatenates [⟨2, ![m, 32]⟩, ⟨2, ![m, 96]⟩] ⟨2, ![m, 128]⟩ 1) (r : Fin m) :
    row (concatenate ⟨2, ![m, 128]⟩ 1 [⟨⟨2, ![m, 32]⟩, x⟩, ⟨⟨2, ![m, 96]⟩, e⟩] h) r = join (row x r) (row e r) := by
  funext j
  unfold row join
  split_ifs with hj
  · refine concatenate_pair_apply_left 1 x e h (ix2 r j) rfl (ix2 r ⟨j.val, hj⟩) fun b => ?_
    match b with
    | ⟨0, _⟩ => rfl
    | ⟨1, _⟩ => rfl
  · refine concatenate_pair_apply_right 1 x e h (ix2 r j) rfl rfl (ix2 r ⟨j.val - 32, by omega⟩) (fun b hb => ?_) ?_
    · match b with
      | ⟨0, _⟩ => rfl
      | ⟨1, _⟩ => exact absurd rfl hb
    · show j.val - 32 + 32 = j.val
      omega

/-- The whole lift as the kernels spell it, row by row: the two calls' encoders are this one at 4096 and at 1024 rows. -/
theorem row_lift {m : ℕ} {d1 : DotDims ⟨2, ![m, 32]⟩ ⟨2, ![32, 512]⟩ ⟨2, ![m, 512]⟩} (h1 : d1 = DotDims.plain m 32 512)
    {d2 : DotDims ⟨2, ![m, 512]⟩ ⟨2, ![512, 512]⟩ ⟨2, ![m, 512]⟩} (h2 : d2 = DotDims.plain m 512 512)
    {d3 : DotDims ⟨2, ![m, 512]⟩ ⟨2, ![512, 96]⟩ ⟨2, ![m, 96]⟩} (h3 : d3 = DotDims.plain m 512 96)
    (x : Mat m 32) (w1 : Mat 32 512) (b1 : Mat 1 512) (w2 : Mat 512 512) (b2 : Mat 1 512) (w3 : Mat 512 512) (b3 : Mat 1 512)
    (wo : Mat 512 96) (bo : Mat 1 96) (hb : (⟨2, ![1, 512]⟩ : Shape).Broadcasts ⟨2, ![m, 512]⟩)
    (hbo : (⟨2, ![1, 96]⟩ : Shape).Broadcasts ⟨2, ![m, 96]⟩)
    (hc : Shape.Concatenates [⟨2, ![m, 32]⟩, ⟨2, ![m, 96]⟩] ⟨2, ![m, 128]⟩ 1) (r : Fin m) :
    row (concatenate ⟨2, ![m, 128]⟩ 1 [⟨⟨2, ![m, 32]⟩, x⟩, ⟨⟨2, ![m, 96]⟩,
      addf (matmul d3 none
        (maximumf (addf (matmul d2 none
          (maximumf (addf (matmul d2 none
            (maximumf (addf (matmul d1 none x w1 (constant ⟨2, ![m, 512]⟩ .f32 0x00000000#32)) (broadcastTo ⟨2, ![m, 512]⟩ b1 hb))
              (broadcast ⟨2, ![m, 512]⟩ (Scalar.ofBits (F := Ideal) .f32 0x00000000#32)))
            w2 (constant ⟨2, ![m, 512]⟩ .f32 0x00000000#32)) (broadcastTo ⟨2, ![m, 512]⟩ b2 hb))
            (broadcast ⟨2, ![m, 512]⟩ (Scalar.ofBits (F := Ideal) .f32 0x00000000#32)))
          w3 (constant ⟨2, ![m, 512]⟩ .f32 0x00000000#32)) (broadcastTo ⟨2, ![m, 512]⟩ b3 hb))
          (broadcast ⟨2, ![m, 512]⟩ (Scalar.ofBits (F := Ideal) .f32 0x00000000#32)))
        wo (constant ⟨2, ![m, 96]⟩ .f32 0x00000000#32)) (broadcastTo ⟨2, ![m, 96]⟩ bo hbo)⟩] hc) r
      = lift ⟨w1, row b1 0, w2, row b2 0, w3, row b3 0, wo, row bo 0⟩ (row x r) := by
  refine (row_join _ _ _ _).trans (congrArg _ ?_)
  refine (row_dense h3 _ _ _ _ _).trans (congrArg (affine _ _) ?_)
  refine (row_relu _ _).trans (congrArg _ ?_)
  refine (row_dense h2 _ _ _ _ _).trans (congrArg (affine _ _) ?_)
  refine (row_relu _ _).trans (congrArg _ ?_)
  refine (row_dense h2 _ _ _ _ _).trans (congrArg (affine _ _) ?_)
  refine (row_relu _ _).trans (congrArg _ ?_)
  exact row_dense h1 _ _ _ _ _

/-- The kernel's step is the recurrence's, row by row: the inputs are held with their rows along the second axis. -/
theorem row_step {m : ℕ} {d : DotDims ⟨2, ![m, 128]⟩ ⟨2, ![128, 128]⟩ ⟨2, ![m, 128]⟩} (hd : d = DotDims.plain m 128 128)
    {e : DotDims ⟨2, ![8, m]⟩ ⟨2, ![8, 128]⟩ ⟨2, ![m, 128]⟩} (hn : e.contr.rank = 1) (hs : e.contr.size ⟨0, by omega⟩ = 8)
    (hl : ∀ (r : Fin m) (j : Fin 128) (c : Fin 8), e.lhsIdx (ix2 r j) ((contrEquiv1 e 8 hn hs).symm c) = ix2 c r)
    (hr : ∀ (r : Fin m) (j : Fin 128) (c : Fin 8), e.rhsIdx (ix2 r j) ((contrEquiv1 e 8 hn hs).symm c) = ix2 c j)
    (z : Mat m 128) (A : Mat 128 128) (B : Mat 8 128) (u : Mat 8 m) (r : Fin m) :
    row (addf (matmul d none z A (constant ⟨2, ![m, 128]⟩ .f32 0x00000000#32))
      (matmul e none u B (constant ⟨2, ![m, 128]⟩ .f32 0x00000000#32))) r = advance A B (fun c => u (ix2 c r)) (row z r) := by
  subst hd
  funext j
  have hu : matmul e none u B (constant ⟨2, ![m, 128]⟩ .f32 0x00000000#32) (ix2 r j) = ∑ c : Fin 8, u (ix2 c r) * B (ix2 c j) := by
    refine (Ideal.matmul_constant_zero_apply e none u B (ix2 r j)).trans ?_
    rw [← Equiv.sum_comp (contrEquiv1 e 8 hn hs).symm]
    exact Finset.sum_congr rfl fun c _ => by rw [hl r j c, hr r j c]
  unfold row advance
  rw [addf_apply, show matmul (DotDims.plain m 128 128) none z A (constant ⟨2, ![m, 128]⟩ .f32 0x00000000#32) (ix2 r j) = _ from
    Ideal.matmul_plain_apply none z A _ r j, hu, constant_apply, Ideal.ofBits_zero_f32, zero_add]

/-! ## The reference's spelling -/

/-- The host's product plus a bias vector spread over the rows is the layer's affine map, row by row. -/
theorem row_host_dense {m k n : ℕ} {d : DotDims ⟨2, ![m, k]⟩ ⟨2, ![k, n]⟩ ⟨2, ![m, n]⟩} (hd : d = DotDims.plain m k n)
    (x : Mat m k) (W : Mat k n) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) :
    row (addf (Host.dotGeneral d none x W) (broadcastInDim ⟨2, ![m, n]⟩ ![0, 1] h2 (broadcastInDim ⟨2, ![1, n]⟩ ![1] h1 b))) r
      = affine W (fun j => b (ix1 j)) (row x r) := by
  subst hd
  funext j
  unfold row affine
  rw [addf_apply, StackMember.dotGeneral_plain_apply, broadcastInDim_oneRow_apply]
  refine congrArg _ (broadcastInDim_apply ![1] h1 b _ (ix1 j) fun a => ?_)
  match a with
  | ⟨0, _⟩ =>
    show j.val = if n = 1 then 0 else j.val
    split
    · have := j.isLt; omega
    · rfl

/-- The maximum with a zero spread over the array is the positive part, row by row. -/
theorem row_host_relu {m n : ℕ} (x : Mat m n) (h : (⟨0, ![]⟩ : Shape).BroadcastsInDim ⟨2, ![m, n]⟩ ![]) (r : Fin m) :
    row (maximumf x (broadcastInDim ⟨2, ![m, n]⟩ ![] h (constant (F := Ideal) ⟨0, ![]⟩ .f32 0x00000000#32))) r
      = relu (row x r) := by
  funext j
  unfold row relu
  rw [maximumf_apply, broadcastInDim_scalar_apply, constant_apply, Ideal.ofBits_zero_f32]

/-- The whole lift as the reference spells it, of an array of any number of rows. -/
abbrev hostLift {m : ℕ} (d1 : DotDims ⟨2, ![m, 32]⟩ ⟨2, ![32, 512]⟩ ⟨2, ![m, 512]⟩)
    (d2 : DotDims ⟨2, ![m, 512]⟩ ⟨2, ![512, 512]⟩ ⟨2, ![m, 512]⟩) (d3 : DotDims ⟨2, ![m, 512]⟩ ⟨2, ![512, 96]⟩ ⟨2, ![m, 96]⟩)
    (ha : (⟨1, ![512]⟩ : Shape).BroadcastsInDim ⟨2, ![1, 512]⟩ ![1])
    (hb : (⟨2, ![1, 512]⟩ : Shape).BroadcastsInDim ⟨2, ![m, 512]⟩ ![0, 1])
    (hao : (⟨1, ![96]⟩ : Shape).BroadcastsInDim ⟨2, ![1, 96]⟩ ![1])
    (hbo : (⟨2, ![1, 96]⟩ : Shape).BroadcastsInDim ⟨2, ![m, 96]⟩ ![0, 1])
    (hz : (⟨0, ![]⟩ : Shape).BroadcastsInDim ⟨2, ![m, 512]⟩ ![])
    (hc : Shape.Concatenates [⟨2, ![m, 32]⟩, ⟨2, ![m, 96]⟩] ⟨2, ![m, 128]⟩ 1)
    (x : Mat m 32) (w1 : Mat 32 512) (b1 : FVec Ideal ⟨1, ![512]⟩ .f32) (w2 : Mat 512 512) (b2 : FVec Ideal ⟨1, ![512]⟩ .f32)
    (w3 : Mat 512 512) (b3 : FVec Ideal ⟨1, ![512]⟩ .f32) (wo : Mat 512 96) (bo : FVec Ideal ⟨1, ![96]⟩ .f32) : Mat m 128 :=
  concatenate ⟨2, ![m, 128]⟩ 1 [⟨⟨2, ![m, 32]⟩, x⟩, ⟨⟨2, ![m, 96]⟩, addf (Host.dotGeneral d3 none
    (maximumf (addf (Host.dotGeneral d2 none
      (maximumf (addf (Host.dotGeneral d2 none
        (maximumf (addf (Host.dotGeneral d1 none x w1)
          (broadcastInDim ⟨2, ![m, 512]⟩ ![0, 1] hb (broadcastInDim ⟨2, ![1, 512]⟩ ![1] ha b1)))
          (broadcastInDim ⟨2, ![m, 512]⟩ ![] hz (constant (F := Ideal) ⟨0, ![]⟩ .f32 0x00000000#32))) w2)
        (broadcastInDim ⟨2, ![m, 512]⟩ ![0, 1] hb (broadcastInDim ⟨2, ![1, 512]⟩ ![1] ha b2)))
        (broadcastInDim ⟨2, ![m, 512]⟩ ![] hz (constant (F := Ideal) ⟨0, ![]⟩ .f32 0x00000000#32))) w3)
      (broadcastInDim ⟨2, ![m, 512]⟩ ![0, 1] hb (broadcastInDim ⟨2, ![1, 512]⟩ ![1] ha b3)))
      (broadcastInDim ⟨2, ![m, 512]⟩ ![] hz (constant (F := Ideal) ⟨0, ![]⟩ .f32 0x00000000#32))) wo)
    (broadcastInDim ⟨2, ![m, 96]⟩ ![0, 1] hbo (broadcastInDim ⟨2, ![1, 96]⟩ ![1] hao bo))⟩] hc

/-- Row by row it is the lift. -/
theorem row_host_lift {m : ℕ} {d1 : DotDims ⟨2, ![m, 32]⟩ ⟨2, ![32, 512]⟩ ⟨2, ![m, 512]⟩} (h1 : d1 = DotDims.plain m 32 512)
    {d2 : DotDims ⟨2, ![m, 512]⟩ ⟨2, ![512, 512]⟩ ⟨2, ![m, 512]⟩} (h2 : d2 = DotDims.plain m 512 512)
    {d3 : DotDims ⟨2, ![m, 512]⟩ ⟨2, ![512, 96]⟩ ⟨2, ![m, 96]⟩} (h3 : d3 = DotDims.plain m 512 96) (ha) (hb) (hao) (hbo) (hz) (hc)
    (x : Mat m 32) (w1 : Mat 32 512) (b1 : FVec Ideal ⟨1, ![512]⟩ .f32) (w2 : Mat 512 512) (b2 : FVec Ideal ⟨1, ![512]⟩ .f32)
    (w3 : Mat 512 512) (b3 : FVec Ideal ⟨1, ![512]⟩ .f32) (wo : Mat 512 96) (bo : FVec Ideal ⟨1, ![96]⟩ .f32) (r : Fin m) :
    row (hostLift d1 d2 d3 ha hb hao hbo hz hc x w1 b1 w2 b2 w3 b3 wo bo) r
      = lift ⟨w1, fun j => b1 (ix1 j), w2, fun j => b2 (ix1 j), w3, fun j => b3 (ix1 j), wo, fun j => bo (ix1 j)⟩ (row x r) := by
  refine (row_join _ _ _ _).trans (congrArg _ ?_)
  refine (row_host_dense h3 _ _ _ _ _ _).trans (congrArg (affine _ _) ?_)
  refine (row_host_relu _ _ _).trans (congrArg _ ?_)
  refine (row_host_dense h2 _ _ _ _ _ _).trans (congrArg (affine _ _) ?_)
  refine (row_host_relu _ _ _).trans (congrArg _ ?_)
  refine (row_host_dense h2 _ _ _ _ _ _).trans (congrArg (affine _ _) ?_)
  refine (row_host_relu _ _ _).trans (congrArg _ ?_)
  exact row_host_dense h1 _ _ _ _ _ _

/-- A bias vector given a leading unit axis is its own one row. -/
theorem row_bias {n : ℕ} (b : FVec Ideal ⟨1, ![n]⟩ .f32) (h : (⟨1, ![n]⟩ : Shape).ShapeCasts ⟨2, ![1, n]⟩) :
    row (shapeCast ⟨2, ![1, n]⟩ b h) 0 = fun j => b (ix1 j) :=
  funext fun j => shapeCast_a_1a_apply b h 0 j

/-- Two arrays with the same rows are the same array. -/
theorem ext_rows {m n : ℕ} {x y : Mat m n} (h : ∀ r, row x r = row y r) : x = y := by
  funext i
  rw [eq_ix2 i]
  exact congrFun (h (i 0)) (i 1)

end Koopman

end
-- ==== Proof.LiftValue.lean ====
/-
  WHAT THE FIRST CALL'S ARRAY HOLDS: row by row the lift of the state row of the same number. One block first
  (`row_block`), then the array the blocks tile (`final`).
-/
module

public import proofs.«01_k».proof.Proof.Records
public import proofs.«01_k».proof.Proof.Model

@[expose] public section

noncomputable section

namespace Cert.KernelIdeal.Lift

open Cert.KernelIdeal Cert.KernelIdeal.Gen Idealize.ShloMosaic Idealize.ShloMosaic.TcCoe Idealize.SL.Sem
open Idealize.ShloMosaic.Pipeline (Dat)
open Idealize.ShloMosaic.ValueIdx
open Koopman

/-- One block's payload, read at a row, is the lift of the block's state row under the block's weights. -/
theorem row_block (x : Vec Ideal S4096x32 .f32) (w1 : Vec Ideal S32x512 .f32) (b1 : Vec Ideal S1x512 .f32)
    (w2 : Vec Ideal S512x512 .f32) (b2 : Vec Ideal S1x512 .f32) (w3 : Vec Ideal S512x512 .f32) (b3 : Vec Ideal S1x512 .f32)
    (wo : Vec Ideal S512x96 .f32) (bo : Vec Ideal S1x96 .f32) (r : Fin 4096) :
    row (k0_pay1 x w1 b1 w2 b2 w3 b3 wo bo) r
      = lift ⟨w1, row b1 0, w2, row b2 0, w3, row b3 0, wo, row bo 0⟩ (row x r) := by
  unfold k0_pay1
  have ex : shapeCast S4096x32 x shapeCasts_S4096x32_S4096x32 = x := shapeCast_self x _
  have e1 : shapeCast S1x512 b1 shapeCasts_S1x512_S1x512 = b1 := shapeCast_self b1 _
  have e2 : shapeCast S1x512 b2 shapeCasts_S1x512_S1x512 = b2 := shapeCast_self b2 _
  have e3 : shapeCast S1x512 b3 shapeCasts_S1x512_S1x512 = b3 := shapeCast_self b3 _
  have eo : shapeCast S1x96 bo shapeCasts_S1x96_S1x96 = bo := shapeCast_self bo _
  dsimp only
  rw [ex, e1, e2, e3, eo]
  exact row_lift (m := 4096) rfl rfl rfl x w1 b1 w2 b2 w3 b3 wo bo _ _ _ r

variable (m : (ℓ : Loc nD τ sig) → Buf (Elt Ideal) ℓ)

/-- The perceptron's weights as device `c`'s arguments hold them. -/
def weights (c : Dev nD) : Weights where
  W1 := m ((c : Thread nD τ).loc main_arg3)
  b1 := fun j => (m ((c : Thread nD τ).loc main_arg4) : FVec Ideal S512 .f32) (ix1 j)
  W2 := m ((c : Thread nD τ).loc main_arg5)
  b2 := fun j => (m ((c : Thread nD τ).loc main_arg6) : FVec Ideal S512 .f32) (ix1 j)
  W3 := m ((c : Thread nD τ).loc main_arg7)
  b3 := fun j => (m ((c : Thread nD τ).loc main_arg8) : FVec Ideal S512 .f32) (ix1 j)
  Wo := m ((c : Thread nD τ).loc main_arg9)
  bo := fun j => (m ((c : Thread nD τ).loc main_arg10) : FVec Ideal S96 .f32) (ix1 j)

/-- The state rows: the argument of all next states with its two leading axes merged. -/
def states (c : Dev nD) : Mat 131072 32 :=
  shapeCast S131072x32 (m ((c : Thread nD τ).loc main_arg2) : FVec Ideal S2048x64x32 .f32) shapeCasts_S2048x64x32_S131072x32

/-- The state window and the result window are at block `t` of the rows at point `t`. -/
theorem moving : ∀ t : Fin cfg0.N, (win0_0.index t = ![t.val, 0]) ∧ (win0_9.index t = ![t.val, 0]) :=
  (by decide +kernel : ∀ t : Fin grid0.N, (win0_0.index t = ![t.val, 0]) ∧ (win0_9.index t = ![t.val, 0]))

/-- The weight windows never move. -/
theorem still : ∀ (t : Fin cfg0.N) (a : Fin 2), win0_1.index t a = 0 ∧ win0_2.index t a = 0 ∧ win0_3.index t a = 0
    ∧ win0_4.index t a = 0 ∧ win0_5.index t a = 0 ∧ win0_6.index t a = 0 ∧ win0_7.index t a = 0 ∧ win0_8.index t a = 0 :=
  (by decide +kernel : ∀ (t : Fin grid0.N) (a : Fin 2), win0_1.index t a = 0 ∧ win0_2.index t a = 0 ∧ win0_3.index t a = 0
    ∧ win0_4.index t a = 0 ∧ win0_5.index t a = 0 ∧ win0_6.index t a = 0 ∧ win0_7.index t a = 0 ∧ win0_8.index t a = 0)

/-- The weights as the first host operations leave them, each bias as an array of one row, are the arguments' weights. -/
theorem weights_eq (c : Dev nD) :
    (⟨V1 m c main_arg3, row (V1 m c main_v0 : Mat 1 512) 0, V1 m c main_arg5, row (V1 m c main_v1 : Mat 1 512) 0, V1 m c main_arg7,
      row (V1 m c main_v2 : Mat 1 512) 0, V1 m c main_arg9, row (V1 m c main_v3 : Mat 1 96) 0⟩ : Weights) = weights m c := by
  have v0 : V1 m c main_v0 = shapeCast S1x512 (m ((c : Thread nD τ).loc main_arg4) : FVec Ideal S512 .f32) shapeCasts_S512_S1x512 := by
    unfold V1 hostOps0; after_results <;> rfl
  have v1 : V1 m c main_v1 = shapeCast S1x512 (m ((c : Thread nD τ).loc main_arg6) : FVec Ideal S512 .f32) shapeCasts_S512_S1x512 := by
    unfold V1 hostOps0; after_results <;> rfl
  have v2 : V1 m c main_v2 = shapeCast S1x512 (m ((c : Thread nD τ).loc main_arg8) : FVec Ideal S512 .f32) shapeCasts_S512_S1x512 := by
    unfold V1 hostOps0; after_results <;> rfl
  have v3 : V1 m c main_v3 = shapeCast S1x96 (m ((c : Thread nD τ).loc main_arg10) : FVec Ideal S96 .f32) shapeCasts_S96_S1x96 := by
    unfold V1 hostOps0; after_results <;> rfl
  rw [v0, v1, v2, v3, V1_of m c main_arg3 (by decide), V1_of m c main_arg5 (by decide), V1_of m c main_arg7 (by decide), V1_of m c main_arg9 (by decide)]
  unfold weights
  congr 1 <;> exact row_bias _ _

/-- The weights that a point's blocks hold are the arguments' weights. -/
theorem block_weights (c : Dev nD) (t : Fin cfg0.N) :
    (⟨block (V1 m) c 1 t, row (block (V1 m) c 2 t : Mat 1 512) 0, block (V1 m) c 3 t, row (block (V1 m) c 4 t : Mat 1 512) 0, block (V1 m) c 5 t,
      row (block (V1 m) c 6 t : Mat 1 512) 0, block (V1 m) c 7 t, row (block (V1 m) c 8 t : Mat 1 96) 0⟩ : Weights) = weights m c := by
  have s := still t
  have h1 : block (V1 m) c 1 t = V1 m c main_arg3 := funext fun i => congrArg (V1 m c main_arg3)
    (funext fun a => Fin.ext (win0_1.rect_emb_val_of_index_zero t a (s a).1 i))
  have h2 : block (V1 m) c 2 t = V1 m c main_v0 := funext fun i => congrArg (V1 m c main_v0)
    (funext fun a => Fin.ext (win0_2.rect_emb_val_of_index_zero t a (s a).2.1 i))
  have h3 : block (V1 m) c 3 t = V1 m c main_arg5 := funext fun i => congrArg (V1 m c main_arg5)
    (funext fun a => Fin.ext (win0_3.rect_emb_val_of_index_zero t a (s a).2.2.1 i))
  have h4 : block (V1 m) c 4 t = V1 m c main_v1 := funext fun i => congrArg (V1 m c main_v1)
    (funext fun a => Fin.ext (win0_4.rect_emb_val_of_index_zero t a (s a).2.2.2.1 i))
  have h5 : block (V1 m) c 5 t = V1 m c main_arg7 := funext fun i => congrArg (V1 m c main_arg7)
    (funext fun a => Fin.ext (win0_5.rect_emb_val_of_index_zero t a (s a).2.2.2.2.1 i))
  have h6 : block (V1 m) c 6 t = V1 m c main_v2 := funext fun i => congrArg (V1 m c main_v2)
    (funext fun a => Fin.ext (win0_6.rect_emb_val_of_index_zero t a (s a).2.2.2.2.2.1 i))
  have h7 : block (V1 m) c 7 t = V1 m c main_arg9 := funext fun i => congrArg (V1 m c main_arg9)
    (funext fun a => Fin.ext (win0_7.rect_emb_val_of_index_zero t a (s a).2.2.2.2.2.2.1 i))
  have h8 : block (V1 m) c 8 t = V1 m c main_v3 := funext fun i => congrArg (V1 m c main_v3)
    (funext fun a => Fin.ext (win0_8.rect_emb_val_of_index_zero t a (s a).2.2.2.2.2.2.2 i))
  rw [h1, h2, h3, h4, h5, h6, h7, h8]
  exact weights_eq m c

/-- The state rows are what the first host operations leave for the call. -/
theorem states_eq (c : Dev nD) : V1 m c main_v4 = states m c := by
  unfold V1 hostOps0; after_results <;> rfl

/-- The state block of point `t` holds rows `4096 t …` of the states. -/
theorem block_states (c : Dev nD) (t : Fin cfg0.N) (r : Fin 4096) (R : Fin 131072) (hR : R.val = t.val * 4096 + r.val) :
    row (block (V1 m) c 0 t : Mat 4096 32) r = row (states m c) R := by
  funext l
  unfold row
  rw [← states_eq]
  refine congrArg (V1 m c main_v4) (funext fun a => Fin.ext ?_)
  refine (win0_0.rect_emb_val t _ a).trans ?_
  rw [(moving t).1]
  match a with
  | ⟨0, _⟩ => exact hR.symm
  | ⟨1, _⟩ => exact Nat.zero_add _

/-- What point `t` writes back is block `t` of the lifted array. -/
theorem flushed_eq (c : Dev nD) (t : Fin cfg0.N) :
    (dat (V1 m) c).flushed 9 t = (win0_9.blk t).view.read (Elt Ideal) (lifts (weights m c) (states m c)) := by
  funext j
  show k0_pay1 (block (V1 m) c 0 t) (block (V1 m) c 1 t) (block (V1 m) c 2 t) (block (V1 m) c 3 t) (block (V1 m) c 4 t) (block (V1 m) c 5 t) (block (V1 m) c 6 t)
        (block (V1 m) c 7 t) (block (V1 m) c 8 t) j = lifts (weights m c) (states m c) ((win0_9.rect t).emb j)
  have e0 : ((win0_9.rect t).emb j 0 : ℕ) = t.val * 4096 + (j 0).val := by
    refine (win0_9.rect_emb_val t j 0).trans ?_
    rw [(moving t).2]; rfl
  have e1 : (win0_9.rect t).emb j 1 = j 1 := by
    refine Fin.ext ((win0_9.rect_emb_val t j 1).trans ?_)
    rw [(moving t).2]; exact Nat.zero_add _
  refine (congrArg _ (eq_ix2 j)).trans ((congrFun (row_block (block (V1 m) c 0 t) (block (V1 m) c 1 t) (block (V1 m) c 2 t) (block (V1 m) c 3 t)
    (block (V1 m) c 4 t) (block (V1 m) c 5 t) (block (V1 m) c 6 t) (block (V1 m) c 7 t) (block (V1 m) c 8 t) (j 0)) (j 1)).trans ?_)
  rw [block_weights m c t, block_states m c t (j 0) ((win0_9.rect t).emb j 0) e0]
  unfold lifts
  rw [e1]

/-- The result window is written back at every point. -/
theorem flush0_9 : ∀ t : Fin grid0.N, win0_9.flush t = true := fun t =>
  (Pipeline.Window.flush_reads win0_9 rfl 0 (by decide) (by decide) (Pipeline.Window.sep_of_coord cc0_transform_9 0 0 (fun _ => rfl) (by decide))
    (P := 1) (m := 0) (by decide) rfl t).mpr (Nat.mod_one _)

/-- Every row of the result lies in the block of one point. -/
theorem cover (i : S131072x128.Idx) :
    ∃ t : Fin cfg0.N, (cfg0.win 9).flush t = true ∧ i ∈ ((cfg0.win 9).blk t).view.set := by
  have h0 : (i 0 : Nat) < 131072 := (i 0).isLt
  have h1 : (i 1 : Nat) < 128 := (i 1).isLt
  have hN : cfg0.N = 32 := N_0
  obtain ⟨t, ht⟩ : ∃ t : Fin cfg0.N, t.val = (i 0).val / 4096 := ⟨⟨(i 0).val / 4096, by omega⟩, rfl⟩
  refine ⟨t, flush0_9 _, ?_⟩
  show i ∈ ((View.whole main_v5).slice (win0_9.rect t)).set
  rw [View.set_slice_whole, Rect.mem_set_unit]
  intro a
  show win0_9.index t a * win0_9.size a ≤ (i a).val ∧ (i a).val < win0_9.index t a * win0_9.size a + S4096x128.size a
  rw [(moving t).2]
  match a with
  | ⟨0, _⟩ => show t.val * 4096 ≤ (i 0).val ∧ (i 0).val < t.val * 4096 + 4096; omega
  | ⟨1, _⟩ => show 0 * 128 ≤ (i 1).val ∧ (i 1).val < 0 * 128 + 128; omega

/-- So the result array ends holding the lifted rows. -/
theorem final (c : Dev nD) : (dat (V1 m) c).arrAt 9 cfg0.N = lifts (weights m c) (states m c) :=
  (dat (V1 m) c).arrAt_eq_of_cover 9 (lifts (weights m c) (states m c)) (fun t _ => flushed_eq m c t) cover

end Cert.KernelIdeal.Lift

end
-- ==== Proof.KoopValue.lean ====
/-
  WHAT THE SECOND CALL'S ARRAY HOLDS: at row `n` and step `k`, the state of row `n` after `k + 1` steps of the recurrence
  from the row's lift. First one step and the 64 of them (`row_next`, `row_iter`), then what the call's blocks hold of
  the arguments, then the array.
-/
module

public import proofs.«01_k».proof.Proof.LiftValue

@[expose] public section

noncomputable section

namespace Cert.KernelIdeal.Koop

open Cert.KernelIdeal Cert.KernelIdeal.Gen Idealize.ShloMosaic Idealize.ShloMosaic.TcCoe Idealize.SL.Sem
open Idealize.ShloMosaic.ValueIdx
open Koopman

/-- One block's encoder, read at a row, is the lift of the block's state row under the block's weights. -/
theorem row_first (x : Vec Ideal S1024x32 .f32) (w1 : Vec Ideal S32x512 .f32) (b1 : Vec Ideal S1x512 .f32)
    (w2 : Vec Ideal S512x512 .f32) (b2 : Vec Ideal S1x512 .f32) (w3 : Vec Ideal S512x512 .f32) (b3 : Vec Ideal S1x512 .f32)
    (wo : Vec Ideal S512x96 .f32) (bo : Vec Ideal S1x96 .f32) (r : Fin 1024) :
    row (k1_pay2 x w1 b1 w2 b2 w3 b3 wo bo) r
      = lift ⟨w1, row b1 0, w2, row b2 0, w3, row b3 0, wo, row bo 0⟩ (row x r) := by
  unfold k1_pay2
  have e1 : shapeCast S1x512 b1 shapeCasts_S1x512_S1x512 = b1 := shapeCast_self b1 _
  have e2 : shapeCast S1x512 b2 shapeCasts_S1x512_S1x512 = b2 := shapeCast_self b2 _
  have e3 : shapeCast S1x512 b3 shapeCasts_S1x512_S1x512 = b3 := shapeCast_self b3 _
  have eo : shapeCast S1x96 bo shapeCasts_S1x96_S1x96 = bo := shapeCast_self bo _
  dsimp only
  rw [e1, e2, e3, eo]
  exact row_lift (m := 1024) rfl rfl rfl x w1 b1 w2 b2 w3 b3 wo bo _ _ _ r

/-- One step, read at a row, is the recurrence's. -/
theorem row_next (a : Vec Ideal S128x128 .f32) (b : Vec Ideal S8x128 .f32) (z : FVec Ideal S1024x128 .f32) (u : Vec Ideal S8x1024 .f32)
    (r : Fin 1024) : row (next a b z u) r = advance a b (fun c => (u : Mat 8 1024) (ix2 c r)) (row z r) := by
  unfold next k1_pay3
  have eu : shapeCast S8x1024 u shapeCasts_S8x1024_S8x1024 = u := shapeCast_self u _
  dsimp only
  rw [eu]
  refine row_step (m := 1024) rfl (e := dot_S8x1024_S8x128_S1024x128_0_0_1_1_n_n) rfl rfl (fun r j c => ?_) (fun r j c => ?_) z a b u r
  · have c2 := contrEquiv1_symm_val dot_S8x1024_S8x128_S1024x128_0_0_1_1_n_n 8 rfl rfl c
    funext ax; apply Fin.ext
    match ax with
    | ⟨0, _⟩ => simp [DotDims.lhsIdx, dot_S8x1024_S8x128_S1024x128_0_0_1_1_n_n]; exact c2
    | ⟨1, _⟩ => simp [DotDims.lhsIdx, dot_S8x1024_S8x128_S1024x128_0_0_1_1_n_n]; rfl
  · have c2 := contrEquiv1_symm_val dot_S8x1024_S8x128_S1024x128_0_0_1_1_n_n 8 rfl rfl c
    funext ax; apply Fin.ext
    match ax with
    | ⟨0, _⟩ => simp [DotDims.rhsIdx, dot_S8x1024_S8x128_S1024x128_0_0_1_1_n_n]; exact c2
    | ⟨1, _⟩ => simp [DotDims.rhsIdx, dot_S8x1024_S8x128_S1024x128_0_0_1_1_n_n]; rfl

/-- Step `k`'s inputs are rows `8 k …` of the block of inputs. -/
theorem read_inputs (u : Vec Ideal S512x1024 .f32) (k : ℕ) (h : k < 64) (c : Fin 8) (r : Fin 1024) :
    (View.ld u (inRect k h) : Mat 8 1024) (ix2 c r) = (u : Mat 512 1024) (ix2 ⟨8 * k + c.val, by omega⟩ r) := by
  refine congrArg u (funext fun a => Fin.ext ?_)
  match a with
  | ⟨0, _⟩ => show 8 * k + 1 * c.val = 8 * k + c.val; omega
  | ⟨1, _⟩ => show 0 + 1 * r.val = r.val; omega

/-- The states after `k` steps, read at a row, are the row's trajectory. -/
theorem row_iter (a : Vec Ideal S128x128 .f32) (b : Vec Ideal S8x128 .f32) (u : Vec Ideal S512x1024 .f32) (z : Vec Ideal S1024x128 .f32)
    (r : Fin 1024) (U : ℕ → Fin 8 → EReal)
    (hU : ∀ (k : ℕ) (h : k < 64) (c : Fin 8), (u : Mat 512 1024) (ix2 ⟨8 * k + c.val, by omega⟩ r) = U k c) :
    ∀ k ≤ 64, row (iter a b u z k) r = trajectory a b U (row z r) k
  | 0, _ => rfl
  | k + 1, hk => by
    have h : k < 64 := hk
    unfold iter
    rw [dif_pos h, row_next, row_iter a b u z r U hU k (by omega)]
    show advance a b _ _ = advance a b (U k) _
    congr 1
    funext c
    exact (read_inputs u k h c r).trans (hU k h c)

variable (m : (ℓ : Loc nD τ sig) → Buf (Elt Ideal) ℓ)

/-- A buffer that neither the first call nor the host operations after it write is as the first host operations left it. -/
theorem U3_of (c : Dev nD) (r : Ref sig .tc) (h3 : r ∉ hostOps1_W) (h2 : r ∉ ([main_v5] : List (Ref sig .tc))) :
    U3 m c (Proc.devRef .tc r) = V1 m c r :=
  (congrFun (V3_eq m c) (Proc.devRef .tc r)).symm.trans ((V3_of m (outs m) c r h3).trans (V2_of m (outs m) c r h2))

/-- The state window is at block `t` of the rows at point `t`, the window of the inputs at block `t` of the columns. -/
theorem moving : ∀ t : Fin cfg1.N, (win1_0.index t = ![t.val, 0]) ∧ (win1_1.index t = ![0, t.val]) :=
  (by decide +kernel : ∀ t : Fin grid1.N, (win1_0.index t = ![t.val, 0]) ∧ (win1_1.index t = ![0, t.val]))

/-- The other windows never move. -/
theorem still : ∀ (t : Fin cfg1.N) (a : Fin 2), win1_2.index t a = 0 ∧ win1_3.index t a = 0 ∧ win1_4.index t a = 0
    ∧ win1_5.index t a = 0 ∧ win1_6.index t a = 0 ∧ win1_7.index t a = 0 ∧ win1_8.index t a = 0 ∧ win1_9.index t a = 0
    ∧ win1_10.index t a = 0 ∧ win1_11.index t a = 0 :=
  (by decide +kernel : ∀ (t : Fin grid1.N) (a : Fin 2), win1_2.index t a = 0 ∧ win1_3.index t a = 0 ∧ win1_4.index t a = 0
    ∧ win1_5.index t a = 0 ∧ win1_6.index t a = 0 ∧ win1_7.index t a = 0 ∧ win1_8.index t a = 0 ∧ win1_9.index t a = 0
    ∧ win1_10.index t a = 0 ∧ win1_11.index t a = 0)

/-- The weights that a point's blocks hold are the arguments' weights. -/
theorem block_weights (c : Dev nD) (t : Fin cfg1.N) :
    (⟨block (U3 m) c 2 t, row (block (U3 m) c 3 t : Mat 1 512) 0, block (U3 m) c 4 t, row (block (U3 m) c 5 t : Mat 1 512) 0,
      block (U3 m) c 6 t, row (block (U3 m) c 7 t : Mat 1 512) 0, block (U3 m) c 8 t, row (block (U3 m) c 9 t : Mat 1 96) 0⟩ : Weights)
      = Lift.weights m c := by
  have s := still t
  have h2 : block (U3 m) c 2 t = V1 m c main_arg3 := (funext fun i => congrArg (U3 m c main_arg3)
    (funext fun a => Fin.ext (win1_2.rect_emb_val_of_index_zero t a (s a).1 i))).trans (U3_of m c main_arg3 (by decide) (by decide))
  have h3 : block (U3 m) c 3 t = V1 m c main_v0 := (funext fun i => congrArg (U3 m c main_v0)
    (funext fun a => Fin.ext (win1_3.rect_emb_val_of_index_zero t a (s a).2.1 i))).trans (U3_of m c main_v0 (by decide) (by decide))
  have h4 : block (U3 m) c 4 t = V1 m c main_arg5 := (funext fun i => congrArg (U3 m c main_arg5)
    (funext fun a => Fin.ext (win1_4.rect_emb_val_of_index_zero t a (s a).2.2.1 i))).trans (U3_of m c main_arg5 (by decide) (by decide))
  have h5 : block (U3 m) c 5 t = V1 m c main_v1 := (funext fun i => congrArg (U3 m c main_v1)
    (funext fun a => Fin.ext (win1_5.rect_emb_val_of_index_zero t a (s a).2.2.2.1 i))).trans (U3_of m c main_v1 (by decide) (by decide))
  have h6 : block (U3 m) c 6 t = V1 m c main_arg7 := (funext fun i => congrArg (U3 m c main_arg7)
    (funext fun a => Fin.ext (win1_6.rect_emb_val_of_index_zero t a (s a).2.2.2.2.1 i))).trans (U3_of m c main_arg7 (by decide) (by decide))
  have h7 : block (U3 m) c 7 t = V1 m c main_v2 := (funext fun i => congrArg (U3 m c main_v2)
    (funext fun a => Fin.ext (win1_7.rect_emb_val_of_index_zero t a (s a).2.2.2.2.2.1 i))).trans (U3_of m c main_v2 (by decide) (by decide))
  have h8 : block (U3 m) c 8 t = V1 m c main_arg9 := (funext fun i => congrArg (U3 m c main_arg9)
    (funext fun a => Fin.ext (win1_8.rect_emb_val_of_index_zero t a (s a).2.2.2.2.2.2.1 i))).trans (U3_of m c main_arg9 (by decide) (by decide))
  have h9 : block (U3 m) c 9 t = V1 m c main_v3 := (funext fun i => congrArg (U3 m c main_v3)
    (funext fun a => Fin.ext (win1_9.rect_emb_val_of_index_zero t a (s a).2.2.2.2.2.2.2.1 i))).trans (U3_of m c main_v3 (by decide) (by decide))
  rw [h2, h3, h4, h5, h6, h7, h8, h9]
  exact Lift.weights_eq m c

/-- The state matrix that a point's block holds is the argument. -/
theorem block_a (c : Dev nD) (t : Fin cfg1.N) : block (U3 m) c 10 t = m ((c : Thread nD τ).loc main_arg11) :=
  ((funext fun i => congrArg (U3 m c main_arg11) (funext fun a => Fin.ext (win1_10.rect_emb_val_of_index_zero t a (still t a).2.2.2.2.2.2.2.2.1 i))).trans
    (U3_of m c main_arg11 (by decide) (by decide))).trans (V1_of m c main_arg11 (by decide))

/-- The input matrix that a point's block holds is the argument. -/
theorem block_b (c : Dev nD) (t : Fin cfg1.N) : block (U3 m) c 11 t = m ((c : Thread nD τ).loc main_arg12) :=
  ((funext fun i => congrArg (U3 m c main_arg12) (funext fun a => Fin.ext (win1_11.rect_emb_val_of_index_zero t a (still t a).2.2.2.2.2.2.2.2.2 i))).trans
    (U3_of m c main_arg12 (by decide) (by decide))).trans (V1_of m c main_arg12 (by decide))

/-- The state block of point `t` holds rows `1024 t …` of the states. -/
theorem block_states (c : Dev nD) (t : Fin cfg1.N) (r : Fin 1024) (n : Fin 2048) (hn : n.val = t.val * 1024 + r.val) :
    row (block (U3 m) c 0 t : Mat 1024 32) r = row (m ((c : Thread nD τ).loc main_arg0) : Mat 2048 32) n := by
  funext l
  unfold row
  have e : U3 m c main_arg0 = m ((c : Thread nD τ).loc main_arg0) := (U3_of m c main_arg0 (by decide) (by decide)).trans (V1_of m c main_arg0 (by decide))
  rw [← e]
  refine congrArg (U3 m c main_arg0) (funext fun a => Fin.ext ?_)
  refine (win1_0.rect_emb_val t _ a).trans ?_
  rw [(moving t).1]
  match a with
  | ⟨0, _⟩ => exact hn.symm
  | ⟨1, _⟩ => exact Nat.zero_add _

/-- The array of the inputs, step by step along its rows, as the host operations make it of the argument. -/
theorem inputs_eq (c : Dev nD) : U3 m c main_v8 = shapeCast S512x2048 (transpose S64x8x2048 [1, 2, 0]
    (m ((c : Thread nD τ).loc main_arg1) : FVec Ideal S2048x64x8 .f32) transposes_S2048x64x8_S64x8x2048_1_2_0) shapeCasts_S64x8x2048_S512x2048 := by
  have e : U2 m c main_arg1 = m ((c : Thread nD τ).loc main_arg1) :=
    (congrFun (V2_eq m c) (Proc.devRef .tc main_arg1)).symm.trans ((V2_of m (outs m) c main_arg1 (by decide)).trans (V1_of m c main_arg1 (by decide)))
  rw [← e]
  unfold U3 hostOps1; after_results <;> rfl

/-- The array of the inputs at row `8 k + q` and column `n` is the argument at `(n, k, q)`. -/
theorem inputs_at (c : Dev nD) (k : Fin 64) (q : Fin 8) (n : Fin 2048) (Q : Fin 512) (hQ : Q.val = 8 * k.val + q.val) :
    (U3 m c main_v8 : Mat 512 2048) (ix2 Q n) = (m ((c : Thread nD τ).loc main_arg1) : FVec Ideal S2048x64x8 .f32) (ix3 n k q) := by
  rw [inputs_eq]
  refine (shapeCast_apply _ _ (ix2 Q n) (ix3 k q n) ?_).trans (transpose_apply _ _ _ (ix3 k q n) (ix3 n k q) fun b => ?_)
  · rw [Shape.rowMajor_val_two, Shape.rowMajor_val_three]
    show (k.val * 8 + q.val) * 2048 + n.val = Q.val * 2048 + n.val
    rw [hQ]; ring
  · match b with
    | ⟨0, _⟩ => rfl
    | ⟨1, _⟩ => rfl
    | ⟨2, _⟩ => rfl

/-- Point `t`'s block of inputs holds the controls of its rows. -/
theorem block_inputs (c : Dev nD) (t : Fin cfg1.N) (r : Fin 1024) (n : Fin 2048) (hn : n.val = t.val * 1024 + r.val) (k : ℕ) (h : k < 64) (q : Fin 8) :
    (block (U3 m) c 1 t : Mat 512 1024) (ix2 ⟨8 * k + q.val, by omega⟩ r)
      = controls (m ((c : Thread nD τ).loc main_arg1) : FVec Ideal S2048x64x8 .f32) n k q := by
  unfold controls
  rw [dif_pos h]
  refine Eq.trans ?_ (inputs_at m c ⟨k, h⟩ q n ⟨8 * k + q.val, by omega⟩ rfl)
  refine congrArg (U3 m c main_v8) (funext fun a => Fin.ext ?_)
  refine (win1_1.rect_emb_val t _ a).trans ?_
  rw [(moving t).2]
  match a with
  | ⟨0, _⟩ => exact Nat.zero_add _
  | ⟨1, _⟩ => exact hn.symm

/-- The second call's array holds every row's states. -/
theorem result_eq (c : Dev nD) : result (U3 m) c = predictions (Lift.weights m c) (m ((c : Thread nD τ).loc main_arg11))
    (m ((c : Thread nD τ).loc main_arg12)) (m ((c : Thread nD τ).loc main_arg0)) (m ((c : Thread nD τ).loc main_arg1)) := by
  funext j
  have hj : (j : S2048x64x128.Idx) 0 = (j : S2048x64x128.Idx) 0 := rfl
  have hn : ((j : S2048x64x128.Idx) 0).val = (ptOf ((j : S2048x64x128.Idx) 0)).val * 1024 + (rowIn ((j : S2048x64x128.Idx) 0)).val := by
    show _ = (_ / 1024) * 1024 + _ % 1024
    omega
  have hk : ((j : S2048x64x128.Idx) 1).val + 1 ≤ 64 := ((j : S2048x64x128.Idx) 1).isLt
  refine (congrFun (row_iter (block (U3 m) c 10 (ptOf ((j : S2048x64x128.Idx) 0))) (block (U3 m) c 11 (ptOf ((j : S2048x64x128.Idx) 0)))
    (block (U3 m) c 1 (ptOf ((j : S2048x64x128.Idx) 0))) (first (U3 m) c (ptOf ((j : S2048x64x128.Idx) 0))) (rowIn ((j : S2048x64x128.Idx) 0))
    (controls (m ((c : Thread nD τ).loc main_arg1)) ((j : S2048x64x128.Idx) 0))
    (fun k h q => block_inputs m c _ _ _ hn k h q) _ hk) ((j : S2048x64x128.Idx) 2)).trans ?_
  unfold first predictions
  rw [row_first, block_weights, block_a, block_b, block_states m c _ _ _ hn]

end Cert.KernelIdeal.Koop

end
-- ==== Proof.KernelFinal.lean ====
/-
  WHAT THE KERNEL LEAVES: its three results as arrays, and its arguments as they were.
-/
module

public import proofs.«01_k».proof.Proof.Frames
public import proofs.«01_k».proof.Proof.KoopValue

@[expose] public section

noncomputable section

namespace Cert.KernelIdeal.Koop

open Cert.KernelIdeal Cert.KernelIdeal.Gen
open Idealize.ShloMosaic Idealize.ShloMosaic.TcCoe Idealize.SL.Sem
open Koopman

variable (m : (ℓ : Loc nD τ sig) → Buf (Elt Ideal) ℓ) (ρ : Dev nD → PrngReg)

/-- Every row's predicted states, as the kernel ends with them. -/
abbrev predicted (c : Dev nD) : FVec Ideal S2048x64x128 .f32 :=
  predictions (Lift.weights m c) (m ((c : Thread nD τ).loc main_arg11)) (m ((c : Thread nD τ).loc main_arg12)) (m ((c : Thread nD τ).loc main_arg0))
    (m ((c : Thread nD τ).loc main_arg1))

/-- The second call's result, where the operation after it reads it. -/
theorem second_result (c : Dev nD) : V4 m (outs m) c main_v9 = predicted m c :=
  (congrFun (V4_eq m c) (Proc.devRef .tc main_v9)).trans
    ((show U4 m c (Proc.devRef .tc main_v9) = result (U3 m) c from by unfold U4; exact Function.update_self _ _ _).trans (result_eq m c))

/-- The first result is every row's predicted states. -/
theorem final_predicted (c : Dev nD) : V5 m (outs m) c main_v9 = predicted m c :=
  (V5_of m (outs m) c main_v9 (by decide)).trans (second_result m c)

/-- The second result is the predicted states' first coordinates. -/
theorem final_coordinates (c : Dev nD) : V5 m (outs m) c main_v10
    = extractStridedSlice S2048x64x32 ![0, 0, 0] (predicted m c) slices_S2048x64x128_S2048x64x32_0_0_0 := by
  have e : V5 m (outs m) c main_v10 = extractStridedSlice S2048x64x32 ![0, 0, 0] (V4 m (outs m) c main_v9 : FVec Ideal S2048x64x128 .f32)
      slices_S2048x64x128_S2048x64x32_0_0_0 := by
    unfold V5 hostOps2; after_results <;> rfl
  rw [e, second_result]

/-- The third result is the lift of every given state. -/
theorem final_target (c : Dev nD) : V5 m (outs m) c main_v6
    = shapeCast S2048x64x128 (lifts (Lift.weights m c) (Lift.states m c)) shapeCasts_S131072x128_S2048x64x128 := by
  have e : U3 m c main_v6 = shapeCast S2048x64x128 (U2 m c main_v5 : FVec Ideal S131072x128 .f32) shapeCasts_S131072x128_S2048x64x128 := by
    unfold U3 hostOps1; after_results <;> rfl
  have l : U2 m c main_v5 = lifts (Lift.weights m c) (Lift.states m c) :=
    (show U2 m c (Proc.devRef .tc main_v5) = lifted m c from by unfold U2; exact Function.update_self _ _ _).trans (Lift.final m c)
  refine ((V5_of m (outs m) c main_v6 (by decide)).trans (V4_of m (outs m) c main_v6 (by decide))).trans
    ((congrFun (V3_eq m c) (Proc.devRef .tc main_v6)).trans ?_)
  rw [e, l]

/-- Every execution ends with the three results, and the arguments as they were. -/
theorem value : θ_run defs (onTc (τ := τ) (main (F := Ideal))) ⟨m, fun _ => 0, ρ⟩ (fun r => ∀ c : Dev nD,
    r.2.mem ((c.tc : Thread nD τ).loc main_v9) = predicted m c
      ∧ r.2.mem ((c.tc : Thread nD τ).loc main_v10) = extractStridedSlice S2048x64x32 ![0, 0, 0] (predicted m c) slices_S2048x64x128_S2048x64x32_0_0_0
      ∧ r.2.mem ((c.tc : Thread nD τ).loc main_v6)
        = shapeCast S2048x64x128 (lifts (Lift.weights m c) (Lift.states m c)) shapeCasts_S131072x128_S2048x64x128
      ∧ Kept m r c) :=
  (θ_run defs _ _).mono (fun r h c => ⟨(h.1 c (Proc.devRef .tc main_v9) (mem_uc main_v9 rfl)).trans (final_predicted m c),
    (h.1 c (Proc.devRef .tc main_v10) (mem_uc main_v10 rfl)).trans (final_coordinates m c),
    (h.1 c (Proc.devRef .tc main_v6) (mem_uc main_v6 rfl)).trans (final_target m c), kept m r h.1 c⟩) (run_all m ρ)

end Cert.KernelIdeal.Koop

end
-- ==== Proof.RefEntry.lean ====
/-
  WHAT THE REFERENCE HOLDS WHEN ITS LOOP IS ENTERED: the lift of the first states, the controls' share of every step, the
  state matrix, and, already final, the lift of all next states.
-/
module

public import proofs.«01_k».proof.Proof.Gen.ReferenceIdeal.Run
public import proofs.«01_k».proof.Proof.Model

@[expose] public section

set_option maxRecDepth 100000
set_option maxHeartbeats 2000000

noncomputable section

namespace Cert.ReferenceIdeal.Koop

open Cert.ReferenceIdeal Cert.ReferenceIdeal.Gen Cert.ReferenceIdeal.Value Idealize.ShloMosaic Idealize.ShloMosaic.TcCoe
open Idealize.ShloMosaic.ValueIdx Idealize.ShloMosaic.StableHlo
open Koopman
open scoped BigOperators

variable (m : (ℓ : Loc nD τ sig) → Buf (Elt Ideal) ℓ)

/-- The perceptron's weights as device `c`'s arguments hold them. -/
def weights (c : Dev nD) : Weights where
  W1 := m ((c : Thread nD τ).loc main_arg3)
  b1 := fun j => (m ((c : Thread nD τ).loc main_arg4) : FVec Ideal S512 .f32) (ix1 j)
  W2 := m ((c : Thread nD τ).loc main_arg5)
  b2 := fun j => (m ((c : Thread nD τ).loc main_arg6) : FVec Ideal S512 .f32) (ix1 j)
  W3 := m ((c : Thread nD τ).loc main_arg7)
  b3 := fun j => (m ((c : Thread nD τ).loc main_arg8) : FVec Ideal S512 .f32) (ix1 j)
  Wo := m ((c : Thread nD τ).loc main_arg9)
  bo := fun j => (m ((c : Thread nD τ).loc main_arg10) : FVec Ideal S96 .f32) (ix1 j)

/-- The next states, their two leading axes merged. -/
def states (c : Dev nD) : Mat 131072 32 :=
  shapeCast S131072x32 (m ((c : Thread nD τ).loc main_arg2) : FVec Ideal S2048x64x32 .f32) shapeCasts_S2048x64x32_S131072x32

/-- The controls and the input matrix. -/
abbrev argU (c : Dev nD) : FVec Ideal S2048x64x8 .f32 := m ((c : Thread nD τ).loc main_arg1)
abbrev argB (c : Dev nD) : Mat 8 128 := m ((c : Thread nD τ).loc main_arg12)

/-- The controls' share of every step, as the program spells it. -/
def shares (c : Dev nD) : FVec Ideal S64x2048x128 .f32 :=
  transpose S64x2048x128 [2, 1, 0] (Host.dotGeneral dot_S8x128_S2048x64x8_S128x2048x64_0_2_1_01_n_n none (argB m c) (argU m c))
    transposes_S128x2048x64_S64x2048x128_2_1_0

/-- The loop starts from the lift of the first states. -/
theorem entry_state (c : Dev nD) : entryContents preI m c (Proc.devRef .tc main_v45_3)
    = lifts (weights m c) (m ((c : Thread nD τ).loc main_arg0)) := by
  refine Eq.trans (b := hostLift dot_S2048x32_S32x512_S2048x512_1_0_0_1_n_n dot_S2048x512_S512x512_S2048x512_1_0_0_1_n_n
    dot_S2048x512_S512x96_S2048x96_1_0_0_1_n_n bcast_S512_S1x512_1 bcast_S1x512_S2048x512_0_1 bcast_S96_S1x96_1 bcast_S1x96_S2048x96_0_1
    bcast_S_S2048x512 concatenates_S2048x32_S2048x96_S2048x128_d1 (m ((c : Thread nD τ).loc main_arg0)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))) ?_ (ext_rows fun r => row_host_lift rfl rfl rfl _ _ _ _ _ _ _ _ _ _ _ _ _ _ _ r)
  simp only [entryContents, afterL_cons, afterL_nil]
  after_reads_simp
  rfl

/-- The lift of all next states is made before the loop. -/
theorem entry_target (c : Dev nD) : entryContents preI m c (Proc.devRef .tc main_v41)
    = shapeCast S2048x64x128 (lifts (weights m c) (states m c)) shapeCasts_S131072x128_S2048x64x128 := by
  refine Eq.trans (b := shapeCast S2048x64x128 (hostLift dot_S131072x32_S32x512_S131072x512_1_0_0_1_n_n dot_S131072x512_S512x512_S131072x512_1_0_0_1_n_n
    dot_S131072x512_S512x96_S131072x96_1_0_0_1_n_n bcast_S512_S1x512_1 bcast_S1x512_S131072x512_0_1 bcast_S96_S1x96_1 bcast_S1x96_S131072x96_0_1
    bcast_S_S131072x512 concatenates_S131072x32_S131072x96_S131072x128_d1 (states m c) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))) shapeCasts_S131072x128_S2048x64x128) ?_
    (congrArg (fun y => shapeCast S2048x64x128 y shapeCasts_S131072x128_S2048x64x128)
      (ext_rows fun r => row_host_lift rfl rfl rfl _ _ _ _ _ _ _ _ _ _ _ _ _ _ _ r))
  simp only [entryContents, afterL_cons, afterL_nil]
  after_reads_simp
  rfl

/-- The state matrix is carried unchanged from its argument. -/
theorem entry_matrix (c : Dev nD) : entryContents preI m c (Proc.devRef .tc main_v45_1) = m ((c : Thread nD τ).loc main_arg11) := by
  simp only [entryContents, afterL_cons, afterL_nil]
  after_reads_simp
  rfl

/-- The controls' share of every step is made before the loop. -/
theorem entry_controls (c : Dev nD) : entryContents preI m c (Proc.devRef .tc main_v45_0) = shares m c := by
  simp only [entryContents, afterL_cons, afterL_nil]
  after_reads_simp
  rfl

/-- The controls' share of step `k` for row `n`: the row's controls times the input matrix. -/
theorem shares_at (c : Dev nD) (k : Fin 64) (n : Fin 2048) (j : Fin 128) :
    shares m c (ix3 k n j) = ∑ q : Fin 8, argU m c (ix3 n k q) * argB m c (ix2 q j) := by
  unfold shares
  refine (transpose_apply _ _ _ (ix3 k n j) (ix3 j n k) fun b => ?_).trans ?_
  · match b with
    | ⟨0, _⟩ => rfl
    | ⟨1, _⟩ => rfl
    | ⟨2, _⟩ => rfl
  · refine (Ideal.dotGeneral_apply dot_S8x128_S2048x64x8_S128x2048x64_0_2_1_01_n_n none _ _ _ (ix3 j n k)).trans ?_
    rw [← Equiv.sum_comp (contrEquiv1 dot_S8x128_S2048x64x8_S128x2048x64_0_2_1_01_n_n 8 rfl rfl).symm]
    refine Finset.sum_congr rfl fun q _ => ?_
    have c2 := contrEquiv1_symm_val dot_S8x128_S2048x64x8_S128x2048x64_0_2_1_01_n_n 8 rfl rfl q
    have l2 : dot_S8x128_S2048x64x8_S128x2048x64_0_2_1_01_n_n.lhsIdx (ix3 j n k) ((contrEquiv1 _ 8 rfl rfl).symm q) = ix2 q j := by
      funext ax; apply Fin.ext
      match ax with
      | ⟨0, _⟩ => simp [DotDims.lhsIdx, dot_S8x128_S2048x64x8_S128x2048x64_0_2_1_01_n_n]; exact c2
      | ⟨1, _⟩ => simp [DotDims.lhsIdx, dot_S8x128_S2048x64x8_S128x2048x64_0_2_1_01_n_n]; rfl
    have r2 : dot_S8x128_S2048x64x8_S128x2048x64_0_2_1_01_n_n.rhsIdx (ix3 j n k) ((contrEquiv1 _ 8 rfl rfl).symm q) = ix3 n k q := by
      funext ax; apply Fin.ext
      match ax with
      | ⟨0, _⟩ => simp [DotDims.rhsIdx, dot_S8x128_S2048x64x8_S128x2048x64_0_2_1_01_n_n]; rfl
      | ⟨1, _⟩ => simp [DotDims.rhsIdx, dot_S8x128_S2048x64x8_S128x2048x64_0_2_1_01_n_n]; rfl
      | ⟨2, _⟩ => simp [DotDims.rhsIdx, dot_S8x128_S2048x64x8_S128x2048x64_0_2_1_01_n_n]; exact c2
    rw [l2, r2]
    exact mul_comm _ _

end Cert.ReferenceIdeal.Koop

end
-- ==== Proof.RefLoop.lean ====
/-
  WHAT THE REFERENCE'S LOOP COMPUTES. Trip `k` takes every row's state one step on, with the controls' share of step `k`, and
  stores the new states as slice `k` of the collected array. By induction over the trips the carried state is the row's
  trajectory, and the collected array's first slices are the trajectory's steps.
-/
module

public import proofs.«01_k».proof.Proof.RefEntry
public import Idealize.ShloMosaic.Lib.WordCmp

@[expose] public section

noncomputable section

namespace Cert.ReferenceIdeal.Koop

open Cert.ReferenceIdeal Cert.ReferenceIdeal.Gen Cert.ReferenceIdeal.Value Idealize.ShloMosaic Idealize.ShloMosaic.TcCoe
open Idealize.ShloMosaic.ValueIdx Idealize.ShloMosaic.StableHlo
open Koopman
open scoped BigOperators

/-- Where trip `k` reads and writes: at slice `k`, from the first row and column. -/
theorem start_at (i : IVec S_ 32) (k : ℕ) (hk : k < 64) (hi : i = fun _ => Scf.iv 0#32 1#32 k) (a : Fin 3) :
    (((![i, constantI S_ 32 0#32, constantI S_ 32 0#32] : Fin 3 → (⟨S_, .i32⟩ : BufTy).Contents (Elt Ideal))) a (Shape.Idx.first h_S_)).toInt
      = ((![k, 0, 0] : Fin 3 → ℕ) a : Int) := by
  subst hi
  match a with
  | ⟨0, _⟩ =>
    show (Scf.iv 0#32 1#32 k).toInt = (k : Int)
    rw [show Scf.iv 0#32 1#32 k = BitVec.ofNat 32 k from by unfold Scf.iv; simp]
    rw [BitVec.toInt_eq_toNat_cond, BitVec.toNat_ofNat, Nat.mod_eq_of_lt (by omega)]
    split <;> omega
  | ⟨1, _⟩ => rfl
  | ⟨2, _⟩ => rfl

/-- A slice of the stacked array lies inside it. -/
theorem slice_inb (k : ℕ) (hk : k < 64) : S64x2048x128.Slices ![k, 0, 0] S1x2048x128 := by
  refine ⟨rfl, fun a => ?_⟩
  match a with
  | ⟨0, _⟩ => show k + 1 ≤ 64; omega
  | ⟨1, _⟩ => show 0 + 2048 ≤ 2048; omega
  | ⟨2, _⟩ => show 0 + 128 ≤ 128; omega

/-- One trip's step, read at a row. -/
theorem row_trip (z : Mat 2048 128) (A : Mat 128 128) (s : FVec Ideal S64x2048x128 .f32) (start : Fin 3 → Int) (k : ℕ) (hk : k < 64)
    (hs : ∀ a, start a = ((![k, 0, 0] : Fin 3 → ℕ) a : Int)) (n : Fin 2048) (j : Fin 128) :
    (addf (Host.dotGeneral dot_S2048x128_S128x128_S2048x128_1_0_0_1_n_n none z A)
      (shapeCast S2048x128 (Host.dynamicSlice S1x2048x128 s start sliceFits_S64x2048x128_S1x2048x128) shapeCasts_S1x2048x128_S2048x128) : Mat 2048 128) (ix2 n j)
      = (∑ i, z (ix2 n i) * A (ix2 i j)) + s (ix3 ⟨k, hk⟩ n j) := by
  rw [addf_apply, show Host.dotGeneral dot_S2048x128_S128x128_S2048x128_1_0_0_1_n_n none z A (ix2 n j) = _ from
    StackMember.dotGeneral_plain_apply none z A n j]
  refine congrArg _ ?_
  rw [WordCmp.dynamicSlice_eq_extract S1x2048x128 s start _ ![k, 0, 0] (slice_inb k hk) hs]
  refine (shapeCast_apply _ _ (ix2 n j) (ix3 (0 : Fin 1) n j) ?_).trans (extractStridedSlice_apply _ _ _ _ (ix3 ⟨k, hk⟩ n j) fun a => ?_)
  · rw [Shape.rowMajor_val_two, Shape.rowMajor_val_three]
    show (0 * 2048 + n.val) * 128 + j.val = n.val * 128 + j.val
    omega
  · match a with
    | ⟨0, _⟩ => rfl
    | ⟨1, _⟩ => show n.val = 0 + n.val; omega
    | ⟨2, _⟩ => show j.val = 0 + j.val; omega

/-- One trip's store: slice `k` is the new states, the others are as they were. -/
theorem stored_at (o : FVec Ideal S64x2048x128 .f32) (z : Mat 2048 128) (start : Fin 3 → Int) (k : ℕ) (hk : k < 64)
    (hs : ∀ a, start a = ((![k, 0, 0] : Fin 3 → ℕ) a : Int)) (t : Fin 64) (n : Fin 2048) (j : Fin 128) :
    (Host.dynamicUpdateSlice o (broadcastInDim S1x2048x128 ![1, 2] bcast_S2048x128_S1x2048x128_1_2 z) start
      updateFits_S64x2048x128_S1x2048x128 : FVec Ideal S64x2048x128 .f32) (ix3 t n j)
      = if t.val = k then z (ix2 n j) else o (ix3 t n j) := by
  rw [WordCmp.dynamicUpdateSlice_eq_update o _ start _ ![k, 0, 0] (slice_inb k hk) hs]
  unfold updateSlice
  split_ifs with h1 h2 h2
  · refine broadcastInDim_apply (s := S2048x128) (t := S1x2048x128) ![1, 2] _ z _ (ix2 n j) fun a => ?_
    match a with
    | ⟨0, _⟩ => rfl
    | ⟨1, _⟩ => rfl
  · exfalso
    have h := h1 0
    have l : k ≤ t.val := h.1
    have u : t.val < k + 1 := h.2
    omega
  · exfalso
    refine h1 fun a => ?_
    have hn := n.isLt
    have hj := j.isLt
    match a with
    | ⟨0, _⟩ => exact ⟨show k ≤ t.val by omega, show t.val < k + 1 by omega⟩
    | ⟨1, _⟩ => exact ⟨show 0 ≤ n.val by omega, show n.val < 0 + 2048 by omega⟩
    | ⟨2, _⟩ => exact ⟨show 0 ≤ j.val by omega, show j.val < 0 + 128 by omega⟩
  · rfl

variable (m : (ℓ : Loc nD τ sig) → Buf (Elt Ideal) ℓ)

/-- The states, the collected array, the state matrix and the controls' shares before trip `k`. -/
def stateAt (k : ℕ) (c : Dev nD) : Mat 2048 128 := atK m k c (Proc.devRef .tc main_v45_3)
def stackAt (k : ℕ) (c : Dev nD) : FVec Ideal S64x2048x128 .f32 := atK m k c (Proc.devRef .tc main_v45_4)
def matrixAt (k : ℕ) (c : Dev nD) : Mat 128 128 := atK m k c (Proc.devRef .tc main_v45_1)
def sharesAt (k : ℕ) (c : Dev nD) : FVec Ideal S64x2048x128 .f32 := atK m k c (Proc.devRef .tc main_v45_0)

/-- A carried buffer after one more trip is the trip's step of the carried buffers before it. -/
theorem next_at (k : ℕ) (c : Dev nD) (r : Ref sig .tc) (hr : r ∈ carriedRefs) :
    atK m (k + 1) c (Proc.devRef .tc r) = STEP (atK m k c) (Proc.devRef .tc r) := trip_agree (atK m k c) r hr

/-- The state matrix and the controls' shares stay as they were. -/
theorem matrixAt_eq (c : Dev nD) : ∀ k, matrixAt m k c = m ((c : Thread nD τ).loc main_arg11)
  | 0 => entry_matrix m c
  | k + 1 => ((next_at m k c main_v45_1 (by decide)).trans (STEP_main_v45_1 _)).trans (matrixAt_eq c k)

theorem sharesAt_eq (c : Dev nD) : ∀ k, sharesAt m k c = shares m c
  | 0 => entry_controls m c
  | k + 1 => ((next_at m k c main_v45_0 (by decide)).trans (STEP_main_v45_0 _)).trans (sharesAt_eq c k)

/-- One trip on the states: each row goes one step on. -/
theorem state_next (c : Dev nD) (k : ℕ) (hk : k < 64) (n : Fin 2048) :
    row (stateAt m (k + 1) c) n = advance (m ((c : Thread nD τ).loc main_arg11)) (argB m c) (controls (argU m c) n k) (row (stateAt m k c) n) := by
  funext j
  have e : stateAt m (k + 1) c = res_main_while0b_v50 (atK m k c) :=
    (next_at m k c main_v45_3 (by decide)).trans (STEP_main_v45_3 _)
  unfold row advance
  rw [e]
  unfold res_main_while0b_v50
  refine (row_trip (stateAt m k c) (matrixAt m k c) (sharesAt m k c) _ k hk (start_at _ k hk (atK_ctr m c k)) n j).trans ?_
  rw [matrixAt_eq, sharesAt_eq, shares_at]
  unfold controls
  simp only [dif_pos hk]

/-- The states before trip `k` are the rows' trajectories at step `k`. -/
theorem stateAt_eq (c : Dev nD) (n : Fin 2048) : ∀ k ≤ 64, row (stateAt m k c) n
    = trajectory (m ((c : Thread nD τ).loc main_arg11)) (argB m c) (controls (argU m c) n)
        (lift (weights m c) (row (m ((c : Thread nD τ).loc main_arg0) : Mat 2048 32) n)) k
  | 0, _ => by
    rw [show stateAt m 0 c = lifts (weights m c) (m ((c : Thread nD τ).loc main_arg0)) from entry_state m c]
    rfl
  | k + 1, hk => by
    rw [state_next m c k hk n, stateAt_eq c n k (by omega)]
    rfl

/-- One trip on the collected array. -/
theorem stack_next (c : Dev nD) (k : ℕ) (hk : k < 64) (t : Fin 64) (n : Fin 2048) (j : Fin 128) :
    stackAt m (k + 1) c (ix3 t n j) = if t.val = k then stateAt m (k + 1) c (ix2 n j) else stackAt m k c (ix3 t n j) := by
  have e : stateAt m (k + 1) c = res_main_while0b_v50 (atK m k c) :=
    (next_at m k c main_v45_3 (by decide)).trans (STEP_main_v45_3 _)
  have o : stackAt m (k + 1) c = step_main_v45_4 (atK m k c) := (next_at m k c main_v45_4 (by decide)).trans (STEP_main_v45_4 _)
  rw [o, e]
  exact stored_at (stackAt m k c) (res_main_while0b_v50 (atK m k c)) _ k hk (start_at _ k hk (atK_ctr m c k)) t n j

/-- Before trip `k` the collected array's slices below `k` are the states after those trips. -/
theorem stackAt_eq (c : Dev nD) (t : Fin 64) (n : Fin 2048) (j : Fin 128) : ∀ k ≤ 64, t.val < k →
    stackAt m k c (ix3 t n j) = row (stateAt m (t.val + 1) c) n j
  | 0, _, h => absurd h (Nat.not_lt_zero _)
  | k + 1, hk, h => by
    rw [stack_next m c k hk t n j]
    split_ifs with e
    · rw [e]; rfl
    · exact stackAt_eq c t n j k (by omega) (by omega)

/-- After the last trip the collected array, its two leading axes exchanged, is the array of every row's states. -/
theorem stack_final (c : Dev nD) : transpose S2048x64x128 [1, 0, 2] (stackAt m 64 c) transposes_S64x2048x128_S2048x64x128_1_0_2
    = predictions (weights m c) (m ((c : Thread nD τ).loc main_arg11)) (argB m c) (m ((c : Thread nD τ).loc main_arg0)) (argU m c) := by
  funext i
  refine (transpose_apply _ _ _ i (ix3 (i 1) (i 0) (i 2)) fun b => ?_).trans ?_
  · match b with
    | ⟨0, _⟩ => rfl
    | ⟨1, _⟩ => rfl
    | ⟨2, _⟩ => rfl
  · refine (stackAt_eq m c (i 1) (i 0) (i 2) 64 le_rfl (i 1).isLt).trans ?_
    exact congrFun (stateAt_eq m c (i 0) ((i 1).val + 1) (i 1).isLt) (i 2)

end Cert.ReferenceIdeal.Koop

end
-- ==== Proof.RefFinal.lean ====
/-
  WHAT THE REFERENCE LEAVES: its three results as arrays, and its arguments as they were.
-/
module

public import proofs.«01_k».proof.Proof.RefLoop

@[expose] public section

set_option maxRecDepth 100000

noncomputable section

namespace Cert.ReferenceIdeal.Koop

open Cert.ReferenceIdeal Cert.ReferenceIdeal.Gen Cert.ReferenceIdeal.Value Idealize.ShloMosaic Idealize.ShloMosaic.TcCoe
open Idealize.ShloMosaic.StableHlo Idealize.SL.Sem
open Koopman

variable (m : (ℓ : Loc nD τ sig) → Buf (Elt Ideal) ℓ) (ρ : Dev nD → PrngReg)

/-- What the loop and the operations after it write. -/
abbrev loopWrites : List (List (Ref sig .tc)) :=
  [condOps_W, while0Ops0_W, while0Ops0_1_W, while0Ops0_2_W, while0Ops0_3_W]
/-- What the operations before the loop write. -/
abbrev entryWrites : List (List (Ref sig .tc)) :=
  [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W]

/-- A buffer the loop does not write holds after `k` trips what it held before the first. -/
theorem kept_loop (c : Dev nD) (r : Ref sig .tc) (h : ∀ W ∈ loopWrites, r ∉ W) :
    ∀ k, atK m k c (Proc.devRef .tc r) = entryContents preI m c (Proc.devRef .tc r)
  | 0 => rfl
  | k + 1 =>
    (after_of_writes_sub while0Ops0_3 _ while0Ops0_3_writes (h while0Ops0_3_W (by simp only [List.mem_cons, true_or, or_true]))).trans <|
    (after_of_writes_sub while0Ops0_2 _ while0Ops0_2_writes (h while0Ops0_2_W (by simp only [List.mem_cons, true_or, or_true]))).trans <|
    (after_of_writes_sub while0Ops0_1 _ while0Ops0_1_writes (h while0Ops0_1_W (by simp only [List.mem_cons, true_or, or_true]))).trans <|
    (after_of_writes_sub while0Ops0 _ while0Ops0_writes (h while0Ops0_W (by simp only [List.mem_cons, true_or, or_true]))).trans <|
    (after_of_writes_sub condOps _ condOps_writes (h condOps_W (by simp only [List.mem_cons, true_or, or_true]))).trans <|
    kept_loop c r h k

/-- A buffer that nothing before the loop writes is as launched where the loop starts. -/
theorem kept_entry (c : Dev nD) (r : Ref sig .tc) (h : ∀ W ∈ entryWrites, r ∉ W) :
    entryContents preI m c (Proc.devRef .tc r) = m ((c.tc : Thread nD τ).loc r) :=
    (after_of_writes_sub hostOps0_12 _ hostOps0_12_writes (h hostOps0_12_W (by simp only [List.mem_cons, true_or, or_true]))).trans <|
    (after_of_writes_sub hostOps0_11 _ hostOps0_11_writes (h hostOps0_11_W (by simp only [List.mem_cons, true_or, or_true]))).trans <|
    (after_of_writes_sub hostOps0_10 _ hostOps0_10_writes (h hostOps0_10_W (by simp only [List.mem_cons, true_or, or_true]))).trans <|
    (after_of_writes_sub hostOps0_9 _ hostOps0_9_writes (h hostOps0_9_W (by simp only [List.mem_cons, true_or, or_true]))).trans <|
    (after_of_writes_sub hostOps0_8 _ hostOps0_8_writes (h hostOps0_8_W (by simp only [List.mem_cons, true_or, or_true]))).trans <|
    (after_of_writes_sub hostOps0_7 _ hostOps0_7_writes (h hostOps0_7_W (by simp only [List.mem_cons, true_or, or_true]))).trans <|
    (after_of_writes_sub hostOps0_6 _ hostOps0_6_writes (h hostOps0_6_W (by simp only [List.mem_cons, true_or, or_true]))).trans <|
    (after_of_writes_sub hostOps0_5 _ hostOps0_5_writes (h hostOps0_5_W (by simp only [List.mem_cons, true_or, or_true]))).trans <|
    (after_of_writes_sub hostOps0_4 _ hostOps0_4_writes (h hostOps0_4_W (by simp only [List.mem_cons, true_or, or_true]))).trans <|
    (after_of_writes_sub hostOps0_3 _ hostOps0_3_writes (h hostOps0_3_W (by simp only [List.mem_cons, true_or, or_true]))).trans <|
    (after_of_writes_sub hostOps0_2 _ hostOps0_2_writes (h hostOps0_2_W (by simp only [List.mem_cons, true_or, or_true]))).trans <|
    (after_of_writes_sub hostOps0_1 _ hostOps0_1_writes (h hostOps0_1_W (by simp only [List.mem_cons, true_or, or_true]))).trans <|
    (after_of_writes_sub hostOps0 _ hostOps0_writes (h hostOps0_W (by simp only [List.mem_cons, true_or, or_true]))).trans <|
    rfl

/-- The contents at the end of a buffer written only before the loop. -/
theorem ends_as_entered (c : Dev nD) (r : Ref sig .tc) (h : ∀ W ∈ hostOps0_13_W :: loopWrites, r ∉ W) :
    finalContents condOps preI bodyI postI 64 m c (Proc.devRef .tc r) = entryContents preI m c (Proc.devRef .tc r) :=
  (after_of_writes_sub hostOps0_13 _ hostOps0_13_writes (h _ List.mem_cons_self)).trans <|
    (after_of_writes_sub condOps _ condOps_writes (h condOps_W (.tail _ List.mem_cons_self))).trans <|
    kept_loop m c r (fun W hW => h W (.tail _ hW)) 64

/-- An argument ends as it was. -/
theorem kept_at (c : Dev nD) (r : Ref sig .tc) (h : ∀ W ∈ hostOps0_13_W :: loopWrites, r ∉ W) (h' : ∀ W ∈ entryWrites, r ∉ W) :
    finalContents condOps preI bodyI postI 64 m c (Proc.devRef .tc r) = m ((c.tc : Thread nD τ).loc r) :=
  (ends_as_entered m c r h).trans (kept_entry m c r h')

/-- The collected array where the operations after the loop read it. -/
theorem stack_end (c : Dev nD) : after condOps (atK m 64 c) (Proc.devRef .tc main_v45_4) = stackAt m 64 c :=
  after_of_writes_sub condOps _ condOps_writes (by decide)

/-- Every row's predicted states, as the reference ends with them. -/
abbrev predicted (c : Dev nD) : FVec Ideal S2048x64x128 .f32 :=
  predictions (weights m c) (m ((c : Thread nD τ).loc main_arg11)) (argB m c) (m ((c : Thread nD τ).loc main_arg0)) (argU m c)

/-- The first result is every row's predicted states. -/
theorem final_predicted (c : Dev nD) : finalContents condOps preI bodyI postI 64 m c (Proc.devRef .tc main_v46) = predicted m c := by
  have e : finalContents condOps preI bodyI postI 64 m c (Proc.devRef .tc main_v46)
      = transpose S2048x64x128 [1, 0, 2] (after condOps (atK m 64 c) (Proc.devRef .tc main_v45_4) : FVec Ideal S64x2048x128 .f32)
          transposes_S64x2048x128_S2048x64x128_1_0_2 := by
    simp only [finalContents, afterL_cons, afterL_nil]
    after_reads_simp
  rw [e, stack_end]
  exact stack_final m c

/-- The second result is the predicted states' first coordinates. -/
theorem final_coordinates (c : Dev nD) : finalContents condOps preI bodyI postI 64 m c (Proc.devRef .tc main_v47)
    = extractStridedSlice S2048x64x32 ![0, 0, 0] (predicted m c) slices_S2048x64x128_S2048x64x32_0_0_0 := by
  have e : finalContents condOps preI bodyI postI 64 m c (Proc.devRef .tc main_v47)
      = extractStridedSlice S2048x64x32 ![0, 0, 0] (transpose S2048x64x128 [1, 0, 2]
          (after condOps (atK m 64 c) (Proc.devRef .tc main_v45_4) : FVec Ideal S64x2048x128 .f32) transposes_S64x2048x128_S2048x64x128_1_0_2)
          slices_S2048x64x128_S2048x64x32_0_0_0 := by
    simp only [finalContents, afterL_cons, afterL_nil]
    after_reads_simp
  rw [e, stack_end, stack_final]

/-- The third result is the lift of every given state. -/
theorem final_target (c : Dev nD) : finalContents condOps preI bodyI postI 64 m c (Proc.devRef .tc main_v41)
    = shapeCast S2048x64x128 (lifts (weights m c) (states m c)) shapeCasts_S131072x128_S2048x64x128 :=
  (ends_as_entered m c main_v41 (by decide)).trans (entry_target m c)

/-- The arguments end as they were. -/
abbrev Kept (r : PUnit × MemSt nD τ sig (Elt Ideal)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)

/-- A state with every buffer at the end's contents has the arguments as they were. -/
theorem kept (r : PUnit × MemSt nD τ sig (Elt Ideal))
    (h : ∀ (c : Dev nD) (b : Ref sig .tc), (Proc.devRef .tc b : DevRef τ sig).isScoped = false →
      r.2.mem ((c.tc : Thread nD τ).loc b) = finalContents condOps preI bodyI postI 64 m c (Proc.devRef .tc b)) (c : Dev nD) : Kept m r c :=
  ⟨(h c main_arg0 rfl).trans (kept_at m c main_arg0 (by decide) (by decide)),
    (h c main_arg1 rfl).trans (kept_at m c main_arg1 (by decide) (by decide)),
    (h c main_arg2 rfl).trans (kept_at m c main_arg2 (by decide) (by decide)),
    (h c main_arg3 rfl).trans (kept_at m c main_arg3 (by decide) (by decide)),
    (h c main_arg4 rfl).trans (kept_at m c main_arg4 (by decide) (by decide)),
    (h c main_arg5 rfl).trans (kept_at m c main_arg5 (by decide) (by decide)),
    (h c main_arg6 rfl).trans (kept_at m c main_arg6 (by decide) (by decide)),
    (h c main_arg7 rfl).trans (kept_at m c main_arg7 (by decide) (by decide)),
    (h c main_arg8 rfl).trans (kept_at m c main_arg8 (by decide) (by decide)),
    (h c main_arg9 rfl).trans (kept_at m c main_arg9 (by decide) (by decide)),
    (h c main_arg10 rfl).trans (kept_at m c main_arg10 (by decide) (by decide)),
    (h c main_arg11 rfl).trans (kept_at m c main_arg11 (by decide) (by decide)),
    (h c main_arg12 rfl).trans (kept_at m c main_arg12 (by decide) (by decide))⟩

/-- Every execution ends with the arguments as they were and no counter above zero. -/
theorem frame : θ_run defs (onTc (τ := τ) (main (F := Ideal))) ⟨m, fun _ => 0, ρ⟩ (fun r => (∀ c : Dev nD, Kept m r c) ∧ r.2.sem = fun _ => 0) :=
  (θ_run defs _ _).mono (fun r h => ⟨fun c => kept m r h c, sem_eq_zero_of_no_sems (by decide) r.2⟩) (run_fold m ρ)

/-- Every execution ends with the three results, and the arguments as they were. -/
theorem value : θ_run defs (onTc (τ := τ) (main (F := Ideal))) ⟨m, fun _ => 0, ρ⟩ (fun r => ∀ c : Dev nD,
    r.2.mem ((c.tc : Thread nD τ).loc main_v46) = predicted m c
      ∧ r.2.mem ((c.tc : Thread nD τ).loc main_v47) = extractStridedSlice S2048x64x32 ![0, 0, 0] (predicted m c) slices_S2048x64x128_S2048x64x32_0_0_0
      ∧ r.2.mem ((c.tc : Thread nD τ).loc main_v41)
        = shapeCast S2048x64x128 (lifts (weights m c) (states m c)) shapeCasts_S131072x128_S2048x64x128
      ∧ Kept m r c) :=
  (θ_run defs _ _).mono (fun r h c => ⟨(h c main_v46 rfl).trans (final_predicted m c), (h c main_v47 rfl).trans (final_coordinates m c),
    (h c main_v41 rfl).trans (final_target m c), kept m r h c⟩) (run_fold m ρ)

end Cert.ReferenceIdeal.Koop

end
-- ==== Proof.Agree.lean ====
/-
  THE TWO PROGRAMS' RESULTS AGREE where their arguments do: both are the same arrays of the arguments.
-/
module

public import proofs.«01_k».proof.Proof.KernelFinal
public import proofs.«01_k».proof.Proof.RefFinal

@[expose] public section

noncomputable section

namespace Cert.Agree

open Idealize.ShloMosaic Idealize.ShloMosaic.TcCoe Idealize.ShloMosaic.ValueIdx
open Koopman

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments agree on device `c`. -/
abbrev Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

variable {m m' c}

/-- The same weights. -/
theorem weights (h : Args m m' c) : Cert.ReferenceIdeal.Koop.weights m' c = Cert.KernelIdeal.Lift.weights m c := by
  obtain ⟨-, -, -, h3, h4, h5, h6, h7, h8, h9, h10, -, -⟩ := h
  unfold Cert.ReferenceIdeal.Koop.weights Cert.KernelIdeal.Lift.weights
  rw [Weights.mk.injEq]
  exact ⟨h3, funext fun j => congrFun h4 (ix1 j), h5, funext fun j => congrFun h6 (ix1 j), h7, funext fun j => congrFun h8 (ix1 j), h9,
    funext fun j => congrFun h10 (ix1 j)⟩

/-- The same given states. -/
theorem states (h : Args m m' c) : Cert.ReferenceIdeal.Koop.states m' c = Cert.KernelIdeal.Lift.states m c :=
  congrArg (fun x : FVec Ideal Cert.KernelIdeal.S2048x64x32 .f32 =>
    shapeCast Cert.KernelIdeal.S131072x32 x Cert.KernelIdeal.Gen.shapeCasts_S2048x64x32_S131072x32) h.2.2.1

/-- The predicted states are the same where what they are computed from is. -/
theorem predictions_same {w w' : Weights} {A A' : Mat 128 128} {B B' : Mat 8 128} {x x' : Mat 2048 32}
    {u u' : FVec Ideal ⟨3, ![2048, 64, 8]⟩ .f32} (hw : w = w') (hA : A = A') (hB : B = B') (hx : x = x') (hu : u = u') :
    predictions w A B x u = predictions w' A' B' x' u' := by
  subst hw hA hB hx hu; rfl

/-- The same predicted states. -/
theorem predicted (h : Args m m' c) : Cert.ReferenceIdeal.Koop.predicted m' c = Cert.KernelIdeal.Koop.predicted m c :=
  predictions_same (weights h) h.2.2.2.2.2.2.2.2.2.2.2.1 h.2.2.2.2.2.2.2.2.2.2.2.2 h.1 h.2.1

/-- Equal arrays have equal first coordinates. -/
theorem slice_same {x y : FVec Ideal ⟨3, ![2048, 64, 128]⟩ .f32} (e : x = y)
    (h h' : (⟨3, ![2048, 64, 128]⟩ : Shape).Slices ![0, 0, 0] ⟨3, ![2048, 64, 32]⟩) :
    extractStridedSlice ⟨3, ![2048, 64, 32]⟩ ![0, 0, 0] x h = extractStridedSlice ⟨3, ![2048, 64, 32]⟩ ![0, 0, 0] y h' := by
  subst e; rfl

/-- Equal weights and equal states have equal lifts, however the lifts are folded. -/
theorem lifts_same {w w' : Weights} {x x' : Mat 131072 32} (hw : w = w') (hx : x = x')
    (h h' : (⟨2, ![131072, 128]⟩ : Shape).ShapeCasts ⟨3, ![2048, 64, 128]⟩) :
    shapeCast ⟨3, ![2048, 64, 128]⟩ (lifts w x) h = shapeCast ⟨3, ![2048, 64, 128]⟩ (lifts w' x') h' := by
  subst hw hx; rfl

/-- The same first coordinates. -/
theorem coordinates (h : Args m m' c) :
    extractStridedSlice Cert.ReferenceIdeal.S2048x64x32 ![0, 0, 0] (Cert.ReferenceIdeal.Koop.predicted m' c)
      Cert.ReferenceIdeal.Gen.slices_S2048x64x128_S2048x64x32_0_0_0
    = extractStridedSlice Cert.KernelIdeal.S2048x64x32 ![0, 0, 0] (Cert.KernelIdeal.Koop.predicted m c)
      Cert.KernelIdeal.Gen.slices_S2048x64x128_S2048x64x32_0_0_0 :=
  slice_same (predicted h) _ _

/-- The same lifts of the given states. -/
theorem target (h : Args m m' c) :
    shapeCast Cert.ReferenceIdeal.S2048x64x128 (lifts (Cert.ReferenceIdeal.Koop.weights m' c) (Cert.ReferenceIdeal.Koop.states m' c))
      Cert.ReferenceIdeal.Gen.shapeCasts_S131072x128_S2048x64x128
    = shapeCast Cert.KernelIdeal.S2048x64x128 (lifts (Cert.KernelIdeal.Lift.weights m c) (Cert.KernelIdeal.Lift.states m c))
      Cert.KernelIdeal.Gen.shapeCasts_S131072x128_S2048x64x128 :=
  lifts_same (weights h) (states h) _ _

end Cert.Agree

end
-- ==== Proof.lean ====
/-
  The certificate: the frames of the three programs, and that the kernel's three results are the reference's.
-/
module

public import proofs.«01_k».proof.Defs
public import proofs.«01_k».proof.Proof.Gen.Kernel.Regions
public import proofs.«01_k».proof.Proof.Gen.Kernel.Skeleton
public import proofs.«01_k».proof.Proof.Gen.KernelIdeal.Regions
public import proofs.«01_k».proof.Proof.Gen.KernelIdeal.Skeleton
public import proofs.«01_k».proof.Proof.Gen.ReferenceIdeal.Run
public import proofs.«01_k».proof.Proof.Agree
public import Idealize.ShloMosaic.Init

@[expose] public section

noncomputable section

namespace Cert.Proof

open Idealize.ShloMosaic Idealize.ShloMosaic.TcCoe Idealize.SL.Sem

/-- Every execution of the kernel ends with its arguments as they were and its counters at zero, at rounded arithmetic. -/
theorem kernel_frame : Cert.quiescent_Kernel (hKernel := Cert.Kernel.Gen.facts) := fun m g _ => by
  rw [Cert.Same.tables, Cert.Same.mains]
  exact Cert.KernelIdeal.Koop.frame_any (F := Bits) m g

/-- The same of the kernel at the extended reals. -/
theorem ideal_frame : Cert.quiescent_KernelIdeal (hKernelIdeal := Cert.KernelIdeal.Gen.facts) := fun m g _ =>
  Cert.KernelIdeal.Koop.frame_any (F := Ideal) m g

/-- The same of the reference. -/
theorem reference_frame : Cert.quiescent_ReferenceIdeal (hReferenceIdeal := Cert.ReferenceIdeal.Gen.facts) := fun m g _ =>
  Cert.ReferenceIdeal.Koop.frame m g

/-- From equal arguments the kernel and the reference end with the same three arrays. -/
theorem value : Cert.algebraic_KernelIdeal_ReferenceIdeal (hKernelIdeal := Cert.KernelIdeal.Gen.facts)
    (hReferenceIdeal := Cert.ReferenceIdeal.Gen.facts) := fun m g m' g' _ hargs => by
  refine ⟨fun c => Cert.KernelIdeal.Koop.predicted m c,
    fun c => extractStridedSlice Cert.KernelIdeal.S2048x64x32 ![0, 0, 0] (Cert.KernelIdeal.Koop.predicted m c)
      Cert.KernelIdeal.Gen.slices_S2048x64x128_S2048x64x32_0_0_0,
    fun c => shapeCast Cert.KernelIdeal.S2048x64x128 (Koopman.lifts (Cert.KernelIdeal.Lift.weights m c) (Cert.KernelIdeal.Lift.states m c))
      Cert.KernelIdeal.Gen.shapeCasts_S131072x128_S2048x64x128, ?_, ?_⟩
  · exact Cert.KernelIdeal.Koop.value m g
  · refine (θ_run (Cert.ReferenceIdeal.defs (F := Ideal)) _ _).mono ?_ (Cert.ReferenceIdeal.Koop.value m' g')
    intro r h c
    obtain ⟨h0, h1, h2, hk⟩ := h c
    refine ⟨?_, ?_, ?_, ?_⟩
    · exact h0.trans (Cert.Agree.predicted (hargs c))
    · exact h1.trans (Cert.Agree.coordinates (hargs c))
    · exact h2.trans (Cert.Agree.target (hargs c))
    · exact hk

theorem claim : Cert.Claim := ⟨Cert.Kernel.Gen.facts, Cert.KernelIdeal.Gen.facts, Cert.ReferenceIdeal.Gen.facts,
  kernel_frame, ideal_frame, reference_frame, trivial, value⟩

end Cert.Proof

end
